-- ==== Defs.lean ====
def Pre_Kernel [hPre_in_range : Cert.Pre_in_range.Facts] (m : (ℓ : Loc Cert.Kernel.nD Cert.Kernel.τ Cert.Kernel.sig) → Buf (Elt Bits) ℓ) : Prop :=
  ∀ c : Dev Cert.Kernel.nD,
    (Cert.Pre_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def quiescent_Kernel [hKernel : Cert.Kernel.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))
      ∧ r.2.sem = fun _ => 0)

def quiescent_KernelIdeal [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v29_0)) (v1 : (c : Dev Cert.KernelIdeal.nD) → Buf (Elt Ideal) ((c.tc : Thread Cert.KernelIdeal.nD Cert.KernelIdeal.τ).loc Cert.KernelIdeal.main_v29_1)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v29_0) = v0 c
          ∧ r.2.mem ((c.tc : Thread Cert.KernelIdeal.nD Cert.KernelIdeal.τ).loc Cert.KernelIdeal.main_v29_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v68) = v0 c
          ∧ r.2.mem ((c.tc : Thread Cert.ReferenceIdeal.nD Cert.ReferenceIdeal.τ).loc Cert.ReferenceIdeal.main_v57) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_in_range : Cert.Pre_in_range.Facts),
    quiescent_Kernel (hKernel := hKernel) (hPre_in_range := hPre_in_range)
    ∧ quiescent_KernelIdeal (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ preserves_Kernel_KernelIdeal
    ∧ algebraic_KernelIdeal_ReferenceIdeal (hKernelIdeal := hKernelIdeal) (hReferenceIdeal := hReferenceIdeal) (hPre_in_range := hPre_in_range)
-- ==== Pre_in_range.lean ====
abbrev S10000x128 : Shape := ⟨2, ![10000, 128]⟩
abbrev S10000 : Shape := ⟨1, ![10000]⟩
abbrev S2x160000 : Shape := ⟨2, ![2, 160000]⟩
abbrev S160000 : Shape := ⟨1, ![160000]⟩
abbrev S128x16 : Shape := ⟨2, ![128, 16]⟩
abbrev S16 : Shape := ⟨1, ![16]⟩
abbrev S256x256 : Shape := ⟨2, ![256, 256]⟩
abbrev S256 : Shape := ⟨1, ![256]⟩
abbrev S10x256 : Shape := ⟨2, ![10, 256]⟩
abbrev S10 : Shape := ⟨1, ![10]⟩
abbrev S_ : Shape := ⟨0, ![]⟩
abbrev S9999 : Shape := ⟨1, ![9999]⟩

class Facts : Prop where
  bcast_S_S2x160000 : S_.BroadcastsInDim S2x160000 (![] : Fin 0 → Fin S2x160000.rank)
  reducesTo_S2x160000_S_d0_1 : S2x160000.ReducesTo [0, 1] S_
  h_S_ : 0 < S_.numel
  bcast_S_S10000 : S_.BroadcastsInDim S10000 (![] : Fin 0 → Fin S10000.rank)
  reducesTo_S10000_S_d0 : S10000.ReducesTo [0] S_
  slices_S10000_S9999_0 : S10000.Slices ![0] S9999
  slices_S10000_S9999_1 : S10000.Slices ![1] S9999
  reducesTo_S9999_S_d0 : S9999.ReducesTo [0] S_

variable [Facts]

def fn_part1 {F : FTy → Type} [FloatOps F] (main_v12 : IVec S_ 1) (main_v16 : IVec S_ 1) : IVec S_ 1 :=
  let main_v17 : IVec S_ 1 := andi main_v12 main_v16
  main_v17

def fn {F : FTy → Type} [FloatOps F] (main_arg0 : FVec F S10000x128 .f32) (main_arg1 : FVec F S10000 .f32) (main_arg2 : IVec S2x160000 32) (main_arg3 : FVec F S160000 .f32) (main_arg4 : IVec S10000 32) (main_arg5 : FVec F S128x16 .f32) (main_arg6 : FVec F S16 .f32) (main_arg7 : FVec F S256x256 .f32) (main_arg8 : FVec F S256 .f32) (main_arg9 : FVec F S10x256 .f32) (main_arg10 : FVec F S10 .f32) : IVec S_ 1 :=
  let main_c : IVec S_ 32 := constantI S_ 32 0#32
  let main_v0 : IVec S2x160000 32 := broadcastInDim S2x160000 ![] bcast_S_S2x160000 main_c
  let main_v1 : IVec S2x160000 1 := cmpi .sge main_arg2 main_v0
  let main_c_0 : IVec S_ 32 := constantI S_ 32 10000#32
  let main_v2 : IVec S2x160000 32 := broadcastInDim S2x160000 ![] bcast_S_S2x160000 main_c_0
  let main_v3 : IVec S2x160000 1 := cmpi .slt main_arg2 main_v2
  let main_v4 : IVec S2x160000 1 := andi main_v1 main_v3
  let main_c_1 : IVec S_ 1 := constantI S_ 1 1#1
  let main_v5 : IVec S_ 1 := (fun x v => Host.reduce IntOp.andi x v reducesTo_S2x160000_S_d0_1 h_S_) main_v4 main_c_1
  let main_c_2 : IVec S_ 32 := constantI S_ 32 0#32
  let main_v6 : IVec S10000 32 := broadcastInDim S10000 ![] bcast_S_S10000 main_c_2
  let main_v7 : IVec S10000 1 := cmpi .sge main_arg4 main_v6
  let main_c_3 : IVec S_ 32 := constantI S_ 32 64#32
  let main_v8 : IVec S10000 32 := broadcastInDim S10000 ![] bcast_S_S10000 main_c_3
  let main_v9 : IVec S10000 1 := cmpi .slt main_arg4 main_v8
  let main_v10 : IVec S10000 1 := andi main_v7 main_v9
  let main_c_4 : IVec S_ 1 := constantI S_ 1 1#1
  let main_v11 : IVec S_ 1 := (fun x v => Host.reduce IntOp.andi x v reducesTo_S10000_S_d0 h_S_) main_v10 main_c_4
  let main_v12 : IVec S_ 1 := andi main_v5 main_v11
  let main_v13 : IVec S9999 32 := (extractStridedSlice S9999 ![0] · slices_S10000_S9999_0) main_arg4
  let main_v14 : IVec S9999 32 := (extractStridedSlice S9999 ![1] · slices_S10000_S9999_1) main_arg4
  let main_v15 : IVec S9999 1 := cmpi .sle main_v13 main_v14
  let main_c_5 : IVec S_ 1 := constantI S_ 1 1#1
  let main_v16 : IVec S_ 1 := (fun x v => Host.reduce IntOp.andi x v reducesTo_S9999_S_d0 h_S_) main_v15 main_c_5
  fn_part1 (F := F) main_v12 main_v16
-- ==== Kernel.lean ====
abbrev S10000x128 : Shape := ⟨2, ![10000, 128]⟩
abbrev S10000 : Shape := ⟨1, ![10000]⟩
abbrev S2x160000 : Shape := ⟨2, ![2, 160000]⟩
abbrev S160000 : Shape := ⟨1, ![160000]⟩
abbrev S128x16 : Shape := ⟨2, ![128, 16]⟩
abbrev S16 : Shape := ⟨1, ![16]⟩
abbrev S256x256 : Shape := ⟨2, ![256, 256]⟩
abbrev S256 : Shape := ⟨1, ![256]⟩
abbrev S10x256 : Shape := ⟨2, ![10, 256]⟩
abbrev S10 : Shape := ⟨1, ![10]⟩
abbrev S16x16 : Shape := ⟨2, ![16, 16]⟩
abbrev S_ : Shape := ⟨0, ![]⟩
abbrev S1x16x1x16 : Shape := ⟨4, ![1, 16, 1, 16]⟩
abbrev S1x16x16x16 : Shape := ⟨4, ![1, 16, 16, 16]⟩
abbrev S16x256 : Shape := ⟨2, ![16, 256]⟩
abbrev S1x256 : Shape := ⟨2, ![1, 256]⟩
abbrev S10000x1 : Shape := ⟨2, ![10000, 1]⟩
abbrev S10x1x1000 : Shape := ⟨3, ![10, 1, 1000]⟩
abbrev S10x2000x8 : Shape := ⟨3, ![10, 2000, 8]⟩
abbrev S1x160000 : Shape := ⟨2, ![1, 160000]⟩
abbrev S10x8x2000 : Shape := ⟨3, ![10, 8, 2000]⟩
abbrev S10000x16 : Shape := ⟨2, ![10000, 16]⟩
abbrev S64x256 : Shape := ⟨2, ![64, 256]⟩
abbrev S64x1 : Shape := ⟨2, ![64, 1]⟩
abbrev S1000x128 : Shape := ⟨2, ![1000, 128]⟩
abbrev S1000x1 : Shape := ⟨2, ![1000, 1]⟩
abbrev S1x1x1000 : Shape := ⟨3, ![1, 1, 1000]⟩
abbrev S1000x16 : Shape := ⟨2, ![1000, 16]⟩
abbrev S1000x256 : Shape := ⟨2, ![1000, 256]⟩
abbrev S1x1000 : Shape := ⟨2, ![1, 1000]⟩
abbrev S64x1000 : Shape := ⟨2, ![64, 1000]⟩
abbrev S64 : Shape := ⟨1, ![64]⟩
abbrev S160000x16 : Shape := ⟨2, ![160000, 16]⟩
abbrev S5000 : Shape := ⟨1, ![5000]⟩
abbrev S5000x16 : Shape := ⟨2, ![5000, 16]⟩
abbrev S1x5000 : Shape := ⟨2, ![1, 5000]⟩
abbrev S20000x128 : Shape := ⟨2, ![20000, 128]⟩
abbrev S1x10 : Shape := ⟨2, ![1, 10]⟩
abbrev S64x10 : Shape := ⟨2, ![64, 10]⟩
abbrev S2000x128 : Shape := ⟨2, ![2000, 128]⟩
abbrev S1x2000x8 : Shape := ⟨3, ![1, 2000, 8]⟩
abbrev S1x8x2000 : Shape := ⟨3, ![1, 8, 2000]⟩
abbrev S2000x8 : Shape := ⟨2, ![2000, 8]⟩
abbrev S8x2000 : Shape := ⟨2, ![8, 2000]⟩
abbrev S2000x16 : Shape := ⟨2, ![2000, 16]⟩
abbrev S2000x256 : Shape := ⟨2, ![2000, 256]⟩
abbrev S2000x1 : Shape := ⟨2, ![2000, 1]⟩
abbrev S1x2000 : Shape := ⟨2, ![1, 2000]⟩
abbrev S64x2000 : Shape := ⟨2, ![64, 2000]⟩
abbrev S63x256 : Shape := ⟨2, ![63, 256]⟩

abbrev nBuf : Table → Nat
  | .hbm => 48
  | .local .tc .vmem => 32
  | .local .scVector .vmem => 2
  | _ => 0

abbrev bufTy : (tb : Table) → Fin (nBuf tb) → BufTy
  | .hbm, ⟨0, _⟩ => ⟨S10000x128, .f32⟩
  | .hbm, ⟨1, _⟩ => ⟨S10000, .f32⟩
  | .hbm, ⟨2, _⟩ => ⟨S2x160000, .i32⟩
  | .hbm, ⟨3, _⟩ => ⟨S160000, .f32⟩
  | .hbm, ⟨4, _⟩ => ⟨S10000, .i32⟩
  | .hbm, ⟨5, _⟩ => ⟨S128x16, .f32⟩
  | .hbm, ⟨6, _⟩ => ⟨S16, .f32⟩
  | .hbm, ⟨7, _⟩ => ⟨S256x256, .f32⟩
  | .hbm, ⟨8, _⟩ => ⟨S256, .f32⟩
  | .hbm, ⟨9, _⟩ => ⟨S10x256, .f32⟩
  | .hbm, ⟨10, _⟩ => ⟨S10, .f32⟩
  | .hbm, ⟨11, _⟩ => ⟨S16x16, .i32⟩
  | .hbm, ⟨12, _⟩ => ⟨S16x16, .i32⟩
  | .hbm, ⟨13, _⟩ => ⟨S_, .i32⟩
  | .hbm, ⟨14, _⟩ => ⟨S16x16, .i32⟩
  | .hbm, ⟨15, _⟩ => ⟨S16x16, .i32⟩
  | .hbm, ⟨16, _⟩ => ⟨S16x16, .i1⟩
  | .hbm, ⟨17, _⟩ => ⟨S16x16, .f32⟩
  | .hbm, ⟨18, _⟩ => ⟨S1x16x1x16, .f32⟩
  | .hbm, ⟨19, _⟩ => ⟨S1x16x16x16, .f32⟩
  | .hbm, ⟨20, _⟩ => ⟨S16x256, .f32⟩
  | .hbm, ⟨21, _⟩ => ⟨S_, .f32⟩
  | .hbm, ⟨22, _⟩ => ⟨S16x256, .f32⟩
  | .hbm, ⟨23, _⟩ => ⟨S16x256, .f32⟩
  | .hbm, ⟨24, _⟩ => ⟨S16x16, .f32⟩
  | .hbm, ⟨25, _⟩ => ⟨S256, .f32⟩
  | .hbm, ⟨26, _⟩ => ⟨S_, .f32⟩
  | .hbm, ⟨27, _⟩ => ⟨S256, .f32⟩
  | .hbm, ⟨28, _⟩ => ⟨S256, .f32⟩
  | .hbm, ⟨29, _⟩ => ⟨S1x256, .f32⟩
  | .hbm, ⟨30, _⟩ => ⟨S10000x1, .f32⟩
  | .hbm, ⟨31, _⟩ => ⟨S10x1x1000, .i32⟩
  | .hbm, ⟨32, _⟩ => ⟨S10x2000x8, .f32⟩
  | .hbm, ⟨33, _⟩ => ⟨S1x160000, .i32⟩
  | .hbm, ⟨34, _⟩ => ⟨S160000, .i32⟩
  | .hbm, ⟨35, _⟩ => ⟨S10x2000x8, .i32⟩
  | .hbm, ⟨36, _⟩ => ⟨S10x8x2000, .i32⟩
  | .hbm, ⟨37, _⟩ => ⟨S10000x16, .f32⟩
  | .hbm, ⟨38, _⟩ => ⟨S64x256, .f32⟩
  | .hbm, ⟨39, _⟩ => ⟨S64x1, .i32⟩
  | .hbm, ⟨40, _⟩ => ⟨S160000x16, .f32⟩
  | .hbm, ⟨41, _⟩ => ⟨S160000x16, .f32⟩
  | .hbm, ⟨42, _⟩ => ⟨S20000x128, .f32⟩
  | .hbm, ⟨43, _⟩ => ⟨S20000x128, .f32⟩
  | .hbm, ⟨44, _⟩ => ⟨S1x256, .f32⟩
  | .hbm, ⟨45, _⟩ => ⟨S1x10, .f32⟩
  | .hbm, ⟨46, _⟩ => ⟨S64x10, .f32⟩
  | .hbm, ⟨47, _⟩ => ⟨S64x256, .f32⟩
  | .local .tc .vmem, ⟨0, _⟩ => ⟨S1000x128, .f32⟩
  | .local .tc .vmem, ⟨1, _⟩ => ⟨S1000x128, .f32⟩
  | .local .tc .vmem, ⟨2, _⟩ => ⟨S1000x1, .f32⟩
  | .local .tc .vmem, ⟨3, _⟩ => ⟨S1000x1, .f32⟩
  | .local .tc .vmem, ⟨4, _⟩ => ⟨S1x1x1000, .i32⟩
  | .local .tc .vmem, ⟨5, _⟩ => ⟨S1x1x1000, .i32⟩
  | .local .tc .vmem, ⟨6, _⟩ => ⟨S128x16, .f32⟩
  | .local .tc .vmem, ⟨7, _⟩ => ⟨S1x256, .f32⟩
  | .local .tc .vmem, ⟨8, _⟩ => ⟨S16x256, .f32⟩
  | .local .tc .vmem, ⟨9, _⟩ => ⟨S1000x16, .f32⟩
  | .local .tc .vmem, ⟨10, _⟩ => ⟨S1000x16, .f32⟩
  | .local .tc .vmem, ⟨11, _⟩ => ⟨S64x256, .f32⟩
  | .local .tc .vmem, ⟨12, _⟩ => ⟨S64x1, .i32⟩
  | .local .tc .vmem, ⟨13, _⟩ => ⟨S2000x128, .f32⟩
  | .local .tc .vmem, ⟨14, _⟩ => ⟨S2000x128, .f32⟩
  | .local .tc .vmem, ⟨15, _⟩ => ⟨S2000x128, .f32⟩
  | .local .tc .vmem, ⟨16, _⟩ => ⟨S2000x128, .f32⟩
  | .local .tc .vmem, ⟨17, _⟩ => ⟨S1x2000x8, .f32⟩
  | .local .tc .vmem, ⟨18, _⟩ => ⟨S1x2000x8, .f32⟩
  | .local .tc .vmem, ⟨19, _⟩ => ⟨S1x8x2000, .i32⟩
  | .local .tc .vmem, ⟨20, _⟩ => ⟨S1x8x2000, .i32⟩
  | .local .tc .vmem, ⟨21, _⟩ => ⟨S64x1, .i32⟩
  | .local .tc .vmem, ⟨22, _⟩ => ⟨S64x256, .f32⟩
  | .local .tc .vmem, ⟨23, _⟩ => ⟨S1x256, .f32⟩
  | .local .tc .vmem, ⟨24, _⟩ => ⟨S16x256, .f32⟩
  | .local .tc .vmem, ⟨25, _⟩ => ⟨S256x256, .f32⟩
  | .local .tc .vmem, ⟨26, _⟩ => ⟨S1x256, .f32⟩
  | .local .tc .vmem, ⟨27, _⟩ => ⟨S10x256, .f32⟩
  | .local .tc .vmem, ⟨28, _⟩ => ⟨S1x10, .f32⟩
  | .local .tc .vmem, ⟨29, _⟩ => ⟨S64x10, .f32⟩
  | .local .tc .vmem, ⟨30, _⟩ => ⟨S64x256, .f32⟩
  | .local .tc .vmem, ⟨31, _⟩ => ⟨S64x256, .f32⟩
  | .local .scVector .vmem, ⟨0, _⟩ => ⟨S5000, .i32⟩
  | .local .scVector .vmem, ⟨1, _⟩ => ⟨S5000x16, .f32⟩
  | _, _ => ⟨S10000x128, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => false
  | ⟨14, _⟩ => false
  | ⟨15, _⟩ => false
  | ⟨16, _⟩ => false
  | ⟨17, _⟩ => false
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTables nBuf rfl bufTy 4 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_c : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_cst : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_cst_0 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23_0 : Ref sig .tc := ⟨.hbm, 37, rfl⟩
abbrev main_v23_1 : Ref sig .tc := ⟨.hbm, 38, rfl⟩
abbrev main_v23_2 : Ref sig .tc := ⟨.hbm, 39, rfl⟩
abbrev main_v24_0 : Ref sig .tc := ⟨.hbm, 40, rfl⟩
abbrev main_v24_1 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29_0 : Ref sig .tc := ⟨.hbm, 46, rfl⟩
abbrev main_v29_1 : Ref sig .tc := ⟨.hbm, 47, rfl⟩
abbrev main_v23_0_scv : Ref sig .scVector := ⟨.hbm, 37, rfl⟩
abbrev main_arg2_scv : Ref sig .scVector := ⟨.hbm, 2, rfl⟩
abbrev main_v24_0_scv : Ref sig .scVector := ⟨.hbm, 40, rfl⟩
abbrev main_v24_1_scv : Ref sig .scVector := ⟨.hbm, 41, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg8_0 : Ref sig .tc := ⟨.vmem, 12, rfl⟩
abbrev cc2_stg0_0 : Ref sig .tc := ⟨.vmem, 13, rfl⟩
abbrev cc2_stg0_1 : Ref sig .tc := ⟨.vmem, 14, rfl⟩
abbrev cc2_stg1_0 : Ref sig .tc := ⟨.vmem, 15, rfl⟩
abbrev cc2_stg1_1 : Ref sig .tc := ⟨.vmem, 16, rfl⟩
abbrev cc2_stg2_0 : Ref sig .tc := ⟨.vmem, 17, rfl⟩
abbrev cc2_stg2_1 : Ref sig .tc := ⟨.vmem, 18, rfl⟩
abbrev cc2_stg3_0 : Ref sig .tc := ⟨.vmem, 19, rfl⟩
abbrev cc2_stg3_1 : Ref sig .tc := ⟨.vmem, 20, rfl⟩
abbrev cc2_stg4_0 : Ref sig .tc := ⟨.vmem, 21, rfl⟩
abbrev cc2_stg5_0 : Ref sig .tc := ⟨.vmem, 22, rfl⟩
abbrev cc2_stg6_0 : Ref sig .tc := ⟨.vmem, 23, rfl⟩
abbrev cc2_stg7_0 : Ref sig .tc := ⟨.vmem, 24, rfl⟩
abbrev cc2_stg8_0 : Ref sig .tc := ⟨.vmem, 25, rfl⟩
abbrev cc2_stg9_0 : Ref sig .tc := ⟨.vmem, 26, rfl⟩
abbrev cc2_stg10_0 : Ref sig .tc := ⟨.vmem, 27, rfl⟩
abbrev cc2_stg11_0 : Ref sig .tc := ⟨.vmem, 28, rfl⟩
abbrev cc2_stg12_0 : Ref sig .tc := ⟨.vmem, 29, rfl⟩
abbrev cc2_stg13_0 : Ref sig .tc := ⟨.vmem, 30, rfl⟩
abbrev cc2_scratch0 : Ref sig .tc := ⟨.vmem, 31, rfl⟩
abbrev cc1_scratch0 : Ref sig .scVector := ⟨.vmem, 0, rfl⟩
abbrev cc1_scratch1 : Ref sig .scVector := ⟨.vmem, 1, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem8_0 : DmaSem sig := 12
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem2_1 : DmaSem sig := 23
abbrev cc2_sem3_0 : DmaSem sig := 24
abbrev cc2_sem3_1 : DmaSem sig := 25
abbrev cc2_sem4_0 : DmaSem sig := 26
abbrev cc2_sem5_0 : DmaSem sig := 27
abbrev cc2_sem6_0 : DmaSem sig := 28
abbrev cc2_sem7_0 : DmaSem sig := 29
abbrev cc2_sem8_0 : DmaSem sig := 30
abbrev cc2_sem9_0 : DmaSem sig := 31
abbrev cc2_sem10_0 : DmaSem sig := 32
abbrev cc2_sem11_0 : DmaSem sig := 33
abbrev cc2_sem12_0 : DmaSem sig := 34
abbrev cc2_sem13_0 : DmaSem sig := 35
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1000 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x16 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S16x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1000x16 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S64x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S64x1 .i32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev grid1 : Pipeline.Grid := ⟨2, ![2, 16], ![false, false]⟩

def k1_off1 (i : grid1.Coords) : Fin 2 → Nat :=
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c5000_i32 : BitVec 32 := 5000#32
  let v2 : BitVec 32 := Scalar.muli v1 c5000_i32
  ![0, v2.toNat]
def k1_off2 (i : grid1.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c5000_i32 : BitVec 32 := 5000#32
  let v2 : BitVec 32 := Scalar.muli v1 c5000_i32
  let c0_i32_8_r1 : BitVec 32 := 0#32
  ![v2.toNat, 0]
def k1_off3 (i : grid1.Coords) : Fin 2 → Nat :=
  let c1_i32 : BitVec 32 := 1#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c5000_i32 : BitVec 32 := 5000#32
  let v2 : BitVec 32 := Scalar.muli v1 c5000_i32
  ![1, v2.toNat]
abbrev grid2 : Pipeline.Grid := ⟨1, ![10], ![false]⟩

def k2_cond2 (i : grid2.Coords) : BitVec 1 :=
  let arg0 : BitVec 32 := BitVec.ofNat 32 (i 0).val
  let c9_i32 : BitVec 32 := 9#32
  let v240 : BitVec 1 := Scalar.cmpi .eq arg0 c9_i32
  let v241 : BitVec 32 := Scalar.extui v240
  let c0_i32_97 : BitVec 32 := 0#32
  let v242 : BitVec 1 := Scalar.cmpi .ne v241 c0_i32_97
  v242

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_3 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_10 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_11 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_12 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_13 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S1x2000x8 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S1x8x2000 .i32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 1 → Memref sig .tc .vmem S64x1 .i32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S64x256 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x256 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S16x256 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S256x256 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 1 → Memref sig .tc .vmem S1x256 .f32 := fun | 0 => Memref.whole cc2_stg9_0 | ⟨_ + 1, h⟩ => absurd h (Nat.not_lt.2 (Nat.le_add_left _ _))
abbrev sem2_9 : Fin 1 → DmaSem sig := fun | 0 => cc2_sem9_0 | ⟨_ + 1, h⟩ => absurd h (Nat.not_lt.2 (Nat.le_add_left _ _))
abbrev reads2_9 : Fin grid2.rank → Bool := ![false]

abbrev stage2_10 : Fin 1 → Memref sig .tc .vmem S10x256 .f32 := fun | 0 => Memref.whole cc2_stg10_0 | ⟨_ + 1, h⟩ => absurd h (Nat.not_lt.2 (Nat.le_add_left _ _))
abbrev sem2_10 : Fin 1 → DmaSem sig := fun | 0 => cc2_sem10_0 | ⟨_ + 1, h⟩ => absurd h (Nat.not_lt.2 (Nat.le_add_left _ _))
abbrev reads2_10 : Fin grid2.rank → Bool := ![false]

abbrev stage2_11 : Fin 1 → Memref sig .tc .vmem S1x10 .f32 := fun | 0 => Memref.whole cc2_stg11_0 | ⟨_ + 1, h⟩ => absurd h (Nat.not_lt.2 (Nat.le_add_left _ _))
abbrev sem2_11 : Fin 1 → DmaSem sig := fun | 0 => cc2_sem11_0 | ⟨_ + 1, h⟩ => absurd h (Nat.not_lt.2 (Nat.le_add_left _ _))
abbrev reads2_11 : Fin grid2.rank → Bool := ![false]

abbrev stage2_12 : Fin 1 → Memref sig .tc .vmem S64x10 .f32 := fun | 0 => Memref.whole cc2_stg12_0 | ⟨_ + 1, h⟩ => absurd h (Nat.not_lt.2 (Nat.le_add_left _ _))
abbrev sem2_12 : Fin 1 → DmaSem sig := fun | 0 => cc2_sem12_0 | ⟨_ + 1, h⟩ => absurd h (Nat.not_lt.2 (Nat.le_add_left _ _))
abbrev reads2_12 : Fin grid2.rank → Bool := ![false]

abbrev stage2_13 : Fin 1 → Memref sig .tc .vmem S64x256 .f32 := fun | 0 => Memref.whole cc2_stg13_0 | ⟨_ + 1, h⟩ => absurd h (Nat.not_lt.2 (Nat.le_add_left _ _))
abbrev sem2_13 : Fin 1 → DmaSem sig := fun | 0 => cc2_sem13_0 | ⟨_ + 1, h⟩ => absurd h (Nat.not_lt.2 (Nat.le_add_left _ _))
abbrev reads2_13 : Fin grid2.rank → Bool := ![false]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S10000x128 : Shape := ⟨2, ![10000, 128]⟩
abbrev S10000 : Shape := ⟨1, ![10000]⟩
abbrev S2x160000 : Shape := ⟨2, ![2, 160000]⟩
abbrev S160000 : Shape := ⟨1, ![160000]⟩
abbrev S128x16 : Shape := ⟨2, ![128, 16]⟩
abbrev S16 : Shape := ⟨1, ![16]⟩
abbrev S256x256 : Shape := ⟨2, ![256, 256]⟩
abbrev S256 : Shape := ⟨1, ![256]⟩
abbrev S10x256 : Shape := ⟨2, ![10, 256]⟩
abbrev S10 : Shape := ⟨1, ![10]⟩
abbrev S10000x1 : Shape := ⟨2, ![10000, 1]⟩
abbrev S10000x16 : Shape := ⟨2, ![10000, 16]⟩
abbrev S_ : Shape := ⟨0, ![]⟩
abbrev S2x160000x1 : Shape := ⟨3, ![2, 160000, 1]⟩
abbrev S2x160000x16 : Shape := ⟨3, ![2, 160000, 16]⟩
abbrev S160000x16 : Shape := ⟨2, ![160000, 16]⟩
abbrev S160000x1 : Shape := ⟨2, ![160000, 1]⟩
abbrev S1x160000 : Shape := ⟨2, ![1, 160000]⟩
abbrev S1x16x1 : Shape := ⟨3, ![1, 16, 1]⟩
abbrev S10000x1x16 : Shape := ⟨3, ![10000, 1, 16]⟩
abbrev S10000x16x16 : Shape := ⟨3, ![10000, 16, 16]⟩
abbrev S64x16x16 : Shape := ⟨3, ![64, 16, 16]⟩
abbrev S160000x1x16 : Shape := ⟨3, ![160000, 1, 16]⟩
abbrev S160000x16x16 : Shape := ⟨3, ![160000, 16, 16]⟩
abbrev S64x256 : Shape := ⟨2, ![64, 256]⟩
abbrev S1x256 : Shape := ⟨2, ![1, 256]⟩
abbrev S256x10 : Shape := ⟨2, ![256, 10]⟩
abbrev S64x10 : Shape := ⟨2, ![64, 10]⟩
abbrev S1x10 : Shape := ⟨2, ![1, 10]⟩

abbrev nBuf : Space → Nat
  | .hbm => 95
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000, .f32⟩
  | .hbm, ⟨2, _⟩ => ⟨S2x160000, .i32⟩
  | .hbm, ⟨3, _⟩ => ⟨S160000, .f32⟩
  | .hbm, ⟨4, _⟩ => ⟨S10000, .i32⟩
  | .hbm, ⟨5, _⟩ => ⟨S128x16, .f32⟩
  | .hbm, ⟨6, _⟩ => ⟨S16, .f32⟩
  | .hbm, ⟨7, _⟩ => ⟨S256x256, .f32⟩
  | .hbm, ⟨8, _⟩ => ⟨S256, .f32⟩
  | .hbm, ⟨9, _⟩ => ⟨S10x256, .f32⟩
  | .hbm, ⟨10, _⟩ => ⟨S10, .f32⟩
  | .hbm, ⟨11, _⟩ => ⟨S10000x1, .f32⟩
  | .hbm, ⟨12, _⟩ => ⟨S10000x128, .f32⟩
  | .hbm, ⟨13, _⟩ => ⟨S10000x128, .f32⟩
  | .hbm, ⟨14, _⟩ => ⟨S10000x16, .f32⟩
  | .hbm, ⟨15, _⟩ => ⟨S_, .i32⟩
  | .hbm, ⟨16, _⟩ => ⟨S2x160000, .i32⟩
  | .hbm, ⟨17, _⟩ => ⟨S2x160000, .i1⟩
  | .hbm, ⟨18, _⟩ => ⟨S_, .i32⟩
  | .hbm, ⟨19, _⟩ => ⟨S2x160000, .i32⟩
  | .hbm, ⟨20, _⟩ => ⟨S2x160000, .i32⟩
  | .hbm, ⟨21, _⟩ => ⟨S2x160000, .i32⟩
  | .hbm, ⟨22, _⟩ => ⟨S2x160000x1, .i32⟩
  | .hbm, ⟨23, _⟩ => ⟨S2x160000x16, .f32⟩
  | .hbm, ⟨24, _⟩ => ⟨S_, .f32⟩
  | .hbm, ⟨25, _⟩ => ⟨S160000x16, .f32⟩
  | .hbm, ⟨26, _⟩ => ⟨S160000x1, .f32⟩
  | .hbm, ⟨27, _⟩ => ⟨S160000x16, .f32⟩
  | .hbm, ⟨28, _⟩ => ⟨S160000x16, .f32⟩
  | .hbm, ⟨29, _⟩ => ⟨S1x160000, .i32⟩
  | .hbm, ⟨30, _⟩ => ⟨S160000, .i32⟩
  | .hbm, ⟨31, _⟩ => ⟨S_, .i32⟩
  | .hbm, ⟨32, _⟩ => ⟨S160000, .i32⟩
  | .hbm, ⟨33, _⟩ => ⟨S160000, .i1⟩
  | .hbm, ⟨34, _⟩ => ⟨S_, .i32⟩
  | .hbm, ⟨35, _⟩ => ⟨S160000, .i32⟩
  | .hbm, ⟨36, _⟩ => ⟨S160000, .i32⟩
  | .hbm, ⟨37, _⟩ => ⟨S160000, .i32⟩
  | .hbm, ⟨38, _⟩ => ⟨S160000x1, .i32⟩
  | .hbm, ⟨39, _⟩ => ⟨S160000, .i32⟩
  | .hbm, ⟨40, _⟩ => ⟨S1x16x1, .f32⟩
  | .hbm, ⟨41, _⟩ => ⟨S10000x1x16, .f32⟩
  | .hbm, ⟨42, _⟩ => ⟨S10000x16x16, .f32⟩
  | .hbm, ⟨43, _⟩ => ⟨S10000x16x16, .f32⟩
  | .hbm, ⟨44, _⟩ => ⟨S10000x16x16, .f32⟩
  | .hbm, ⟨45, _⟩ => ⟨S_, .f32⟩
  | .hbm, ⟨46, _⟩ => ⟨S10000x16x16, .f32⟩
  | .hbm, ⟨47, _⟩ => ⟨S10000x16x16, .f32⟩
  | .hbm, ⟨48, _⟩ => ⟨S10000x16x16, .f32⟩
  | .hbm, ⟨49, _⟩ => ⟨S10000x16x16, .f32⟩
  | .hbm, ⟨50, _⟩ => ⟨S_, .f32⟩
  | .hbm, ⟨51, _⟩ => ⟨S10000x16x16, .f32⟩
  | .hbm, ⟨52, _⟩ => ⟨S10000x16x16, .f32⟩
  | .hbm, ⟨53, _⟩ => ⟨S_, .f32⟩
  | .hbm, ⟨54, _⟩ => ⟨S10000x16x16, .f32⟩
  | .hbm, ⟨55, _⟩ => ⟨S10000x16x16, .f32⟩
  | .hbm, ⟨56, _⟩ => ⟨S_, .f32⟩
  | .hbm, ⟨57, _⟩ => ⟨S64x16x16, .f32⟩
  | .hbm, ⟨58, _⟩ => ⟨S10000x1, .i32⟩
  | .hbm, ⟨59, _⟩ => ⟨S64x16x16, .f32⟩
  | .hbm, ⟨60, _⟩ => ⟨S1x16x1, .f32⟩
  | .hbm, ⟨61, _⟩ => ⟨S160000x1x16, .f32⟩
  | .hbm, ⟨62, _⟩ => ⟨S160000x16x16, .f32⟩
  | .hbm, ⟨63, _⟩ => ⟨S160000x16x16, .f32⟩
  | .hbm, ⟨64, _⟩ => ⟨S160000x16x16, .f32⟩
  | .hbm, ⟨65, _⟩ => ⟨S_, .f32⟩
  | .hbm, ⟨66, _⟩ => ⟨S160000x16x16, .f32⟩
  | .hbm, ⟨67, _⟩ => ⟨S160000x16x16, .f32⟩
  | .hbm, ⟨68, _⟩ => ⟨S160000x16x16, .f32⟩
  | .hbm, ⟨69, _⟩ => ⟨S160000x16x16, .f32⟩
  | .hbm, ⟨70, _⟩ => ⟨S_, .f32⟩
  | .hbm, ⟨71, _⟩ => ⟨S160000x16x16, .f32⟩
  | .hbm, ⟨72, _⟩ => ⟨S160000x16x16, .f32⟩
  | .hbm, ⟨73, _⟩ => ⟨S_, .f32⟩
  | .hbm, ⟨74, _⟩ => ⟨S160000x16x16, .f32⟩
  | .hbm, ⟨75, _⟩ => ⟨S160000x16x16, .f32⟩
  | .hbm, ⟨76, _⟩ => ⟨S_, .f32⟩
  | .hbm, ⟨77, _⟩ => ⟨S64x16x16, .f32⟩
  | .hbm, ⟨78, _⟩ => ⟨S160000x1, .i32⟩
  | .hbm, ⟨79, _⟩ => ⟨S64x16x16, .f32⟩
  | .hbm, ⟨80, _⟩ => ⟨S64x16x16, .f32⟩
  | .hbm, ⟨81, _⟩ => ⟨S64x256, .f32⟩
  | .hbm, ⟨82, _⟩ => ⟨S256x256, .f32⟩
  | .hbm, ⟨83, _⟩ => ⟨S64x256, .f32⟩
  | .hbm, ⟨84, _⟩ => ⟨S1x256, .f32⟩
  | .hbm, ⟨85, _⟩ => ⟨S64x256, .f32⟩
  | .hbm, ⟨86, _⟩ => ⟨S64x256, .f32⟩
  | .hbm, ⟨87, _⟩ => ⟨S_, .f32⟩
  | .hbm, ⟨88, _⟩ => ⟨S64x256, .f32⟩
  | .hbm, ⟨89, _⟩ => ⟨S64x256, .f32⟩
  | .hbm, ⟨90, _⟩ => ⟨S256x10, .f32⟩
  | .hbm, ⟨91, _⟩ => ⟨S64x10, .f32⟩
  | .hbm, ⟨92, _⟩ => ⟨S1x10, .f32⟩
  | .hbm, ⟨93, _⟩ => ⟨S64x10, .f32⟩
  | .hbm, ⟨94, _⟩ => ⟨S64x10, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_c : Ref sig .tc := ⟨.hbm, 15, rfl⟩
abbrev main_v4 : Ref sig .tc := ⟨.hbm, 16, rfl⟩
abbrev main_v5 : Ref sig .tc := ⟨.hbm, 17, rfl⟩
abbrev main_c_0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_c_1 : Ref sig .tc := ⟨.hbm, 31, rfl⟩
abbrev main_v17 : Ref sig .tc := ⟨.hbm, 32, rfl⟩
abbrev main_v18 : Ref sig .tc := ⟨.hbm, 33, rfl⟩
abbrev main_c_2 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_cst_3 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_cst_4 : Ref sig .tc := ⟨.hbm, 50, rfl⟩
abbrev main_v33 : Ref sig .tc := ⟨.hbm, 51, rfl⟩
abbrev main_v34 : Ref sig .tc := ⟨.hbm, 52, rfl⟩
abbrev main_cst_5 : Ref sig .tc := ⟨.hbm, 53, rfl⟩
abbrev main_v35 : Ref sig .tc := ⟨.hbm, 54, rfl⟩
abbrev main_v36 : Ref sig .tc := ⟨.hbm, 55, rfl⟩
abbrev main_cst_6 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_cst_7 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_cst_8 : Ref sig .tc := ⟨.hbm, 70, rfl⟩
abbrev main_v49 : Ref sig .tc := ⟨.hbm, 71, rfl⟩
abbrev main_v50 : Ref sig .tc := ⟨.hbm, 72, rfl⟩
abbrev main_cst_9 : Ref sig .tc := ⟨.hbm, 73, rfl⟩
abbrev main_v51 : Ref sig .tc := ⟨.hbm, 74, rfl⟩
abbrev main_v52 : Ref sig .tc := ⟨.hbm, 75, rfl⟩
abbrev main_cst_10 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_call0_cst : Ref sig .tc := ⟨.hbm, 87, rfl⟩
abbrev main_call0_v0 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩

abbrev nD : Nat := 1
abbrev τ : Topo := Topo.v7x

variable {F : FTy → Type} [FloatOps F]
-- ==== Proof.Base.lean ====
/-
  What the modules of this proof share: the program as the SparseCore launch sees it, the resource algebra its
  protocols live in, and the invariant-free names for the blocks a pipeline's windows read.
-/
module

public import proofs.«01_k».proof.Defs
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Pipeline.FrameBody
public import Idealize.ShloMosaic.Lib.Pipeline.Frame
public import Idealize.ShloMosaic.Lib.Pipeline.Value
public import Idealize.ShloMosaic.Lib.Pipeline.Regions
public import Idealize.ShloMosaic.Lib.Pipeline.RegionArrays
public import Idealize.ShloMosaic.Lib.VecWindow
public import Idealize.ShloMosaic.Lib.Ring
public import Idealize.ShloMosaic.Lib.Tactic
public import Idealize.ShloMosaic.Lib.WordCmp
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points

@[expose] public section

noncomputable section

namespace Cert.Proof.Kern

open Cert.KernelIdeal Cert.KernelIdeal.Gen

open Idealize.ShloMosaic Idealize.ShloMosaic.TcCoe Idealize.ShloMosaic.Tactic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type}

/-! ## The program as the launch theorem sees it -/

abbrev ΛP : Labels := Pipeline.Sig Λ₀ (Fin 2) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem nCore_zero : (K (F := F)).nCore 0 = 2 := rfl
theorem nSub_zero : (K (F := F)).nSub 0 = 16 := rfl

/-- No pipeline prefetches a table. -/
abbrev adm : (p : Fin 2) → (pcfgs (F := F) p).Adm := fun p => (cfgs p).toPCfg_adm

/-- The launch's decided side conditions. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds, the staging cells' rounds, the transfers' counters -/

abbrev UH : Type := URounds (GSem nD τ sig) ℕ
abbrev UP : Type := URounds (GSem nD τ sig) Unit
abbrev UU : Type := UH × (UP × Counters)

local notation "𝕄" => MT nD τ sig (HIx 1) (Elt F) ℕ UU ℕ

abbrev EH : Emb UH (MT nD τ sig (HIx 1) (Elt F) ℕ UU ℕ) := embL
/-- The staging cells' rounds. -/
def EP : Emb UP (MT nD τ sig (HIx 1) (Elt F) ℕ UU ℕ) :=
  ((Emb.inl : Emb UP (UP × Counters)).trans (Emb.inr : Emb (UP × Counters) UU)).trans
    (uEmb (nD := nD) (sig := sig) (Ix := HIx 1) (Val := Elt F) (Name := ℕ) (U := UU) (Lvl := ℕ)).toEmb

instance EP_landsIn : (EP : Emb UP 𝕄).LandsIn (upEmb : UEmb _ 𝕄) := by unfold EP; infer_instance

/-- The launch element's parts: the handshakes' rounds, the staging cells' rounds. -/
theorem ownU_parts (a : UH) (b : UP) : (ownU ((a, (b, 1)) : UU) : sProp 𝕄) ⊢ iprop(BI.own (EH a) ∗ BI.own (EP b)) :=
  BI.own_op_elim ((uEmb (nD := nD) (sig := sig) (Ix := HIx 1) (Val := Elt F) (Name := ℕ) (U := UU) (Lvl := ℕ)).toEmb.op_of_mem
    (Prod.mk_mem_op (URA.mem_op_one a) (URA.mem_one_op (b, (1 : Counters)))))

end Cert.Proof.Kern

end
-- ==== Proof.Node.lean ====
/-
  The node pass (the first TensorCore region): what one run of its body leaves in the buffers it writes, as named
  functions of the blocks it reads — the block of node features, the per-graph accumulator and the count of nodes
  that lie in an earlier graph —, and the pipeline's proof data over them.
-/
module

public import proofs.«01_k».proof.Proof.Base

@[expose] public section

set_option maxRecDepth 16384

noncomputable section

namespace Cert.Proof.Kern

open Cert.KernelIdeal Cert.KernelIdeal.Gen

open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 1) (Elt F) ℕ UU ℕ

/-! ## One run of the body -/

/-- The accumulator after a step: what it held, and the step's own sums added. -/
def nodeAcc (x0 : Vec F S1000x128 .f32) (x1 : Vec F S1000x1 .f32) (x2 : Vec F S1x1x1000 .i32) (x3 : Vec F S128x16 .f32)
    (x4 : Vec F S1x256 .f32) (x5 : Vec F S16x256 .f32) (a : Vec F S64x256 .f32) : Vec F S64x256 .f32 :=
  k0_pay1 (k0_pay4 x0 x1 x3 x5 x4) (k0_pay6 x2) a

/-- The counts after a step: what they held, and the step's own counts added. -/
def nodeStarts (x2 : Vec F S1x1x1000 .i32) (s : Vec F S64x1 .i32) : Vec F S64x1 .i32 :=
  k0_pay2 (k0_pay5 x2) (iota .tc S64x1000 32 [0] iota_S64x1000_d0_w32) s

/-- The first step's branch, from the grid coordinate. -/
abbrev nodeFirst (i : grid0.Coords) : Prop :=
  (Scalar.cmpi .ne (Scalar.extui (Scalar.cmpi .eq (BitVec.ofNat 32 (i 0).val) 0#32)) 0#32) = 1#1

theorem nodeFirst_iff (t : Fin cfg0.N) : nodeFirst (grid0.coords t) ↔ t.val % 10 = 0 := by
  have e0 : (grid0.coords t 0).val = t.val / 1 % 10 := Pipeline.Grid.coords_val t 0 (by decide) rfl
  simp only [nodeFirst, e0]
  word_cmp

set_option maxHeartbeats 1000000 in
/-- The body at the first step: the accumulators start from zero. -/
theorem node_run_first (c : Dev nD) (i : grid0.Coords) (arg1 : Memref sig .tc .vmem S1000x128 .f32) (harg1 : arg1.IsWhole) (arg2 : Memref sig .tc .vmem S1000x1 .f32) (harg2 : arg2.IsWhole) (arg3 : Memref sig .tc .vmem S1x1x1000 .i32) (harg3 : arg3.IsWhole) (arg4 : Memref sig .tc .vmem S128x16 .f32) (harg4 : arg4.IsWhole) (arg5 : Memref sig .tc .vmem S1x256 .f32) (harg5 : arg5.IsWhole) (arg6 : Memref sig .tc .vmem S16x256 .f32) (harg6 : arg6.IsWhole) (arg7 : Memref sig .tc .vmem S1000x16 .f32) (harg7 : arg7.IsWhole) (arg8 : Memref sig .tc .vmem S64x256 .f32) (harg8 : arg8.IsWhole) (arg9 : Memref sig .tc .vmem S64x1 .i32) (harg9 : arg9.IsWhole) (hc : nodeFirst i)
    (x0 : Vec F S1000x128 .f32) (x1 : Vec F S1000x1 .f32) (x2 : Vec F S1x1x1000 .i32) (x3 : Vec F S128x16 .f32) (x4 : Vec F S1x256 .f32) (x5 : Vec F S16x256 .f32)
    (E : Set ℕ) (Q : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d) ∗ (∃ d, owns (c : Thread nD τ) arg9 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
              ∗ owns (c : Thread nD τ) arg7 fullShare (k0_pay3 x0 x1 x3) ∗ owns (c : Thread nD τ) arg8 fullShare (nodeAcc x0 x1 x2 x3 x4 x5 k0_pay7) ∗ owns (c : Thread nD τ) arg9 fullShare (nodeStarts x2 k0_pay8)) -∗ Q ⟨⟩))
      ⊢ wp frame (wpE (defs₀ (F := F)) Variants.none c none) E (cc0__node_body i arg1 harg1 arg2 harg2 arg3 harg3 arg4 harg4 arg5 harg5 arg6 harg6 arg7 harg7 arg8 harg8 arg9 harg9) Q := by
  simp only [cc0__node_body_eq_skeleton]; unfold cc0__node_body_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5
  sl_exec (disch := first | sl_exact hc)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr; swap; · iexact H6
    ipureintro
    refine (View.read_writes_full _ _ _ _ _).trans ?_
    congr 1 <;> exact (View.readAt_full _ _ _).trans (by assumption)
  isplitl [H7]
  · iexists _; isplitr; swap; · iexact H7
    ipureintro
    refine (View.read_writes_full _ _ _ _ _).trans ?_
    delta nodeAcc node_run_first.sl.r node_run_first.sl.r_2 node_run_first.sl.v33 node_run_first.sl.H7_1
    congr 1
    · congr 1 <;> exact (View.readAt_full _ _ _).trans (by assumption)
    · congr 1; exact (View.readAt_full _ _ _).trans (by assumption)
    · exact View.readCov_full _ _ _ _ _
  iexists _; isplitr; swap; · iexact H8
  ipureintro
  refine (View.read_writes_full _ _ _ _ _).trans ?_
  delta nodeStarts node_run_first.sl.r_1 node_run_first.sl.v23 node_run_first.sl.v38
  congr 1
  · congr 1; exact (View.readAt_full _ _ _).trans (by assumption)
  · exact View.readCov_full _ _ _ _ _

set_option maxHeartbeats 1000000 in
/-- The body at a later step: the accumulators go on from what they hold. -/
theorem node_run_next (c : Dev nD) (i : grid0.Coords) (arg1 : Memref sig .tc .vmem S1000x128 .f32) (harg1 : arg1.IsWhole) (arg2 : Memref sig .tc .vmem S1000x1 .f32) (harg2 : arg2.IsWhole) (arg3 : Memref sig .tc .vmem S1x1x1000 .i32) (harg3 : arg3.IsWhole) (arg4 : Memref sig .tc .vmem S128x16 .f32) (harg4 : arg4.IsWhole) (arg5 : Memref sig .tc .vmem S1x256 .f32) (harg5 : arg5.IsWhole) (arg6 : Memref sig .tc .vmem S16x256 .f32) (harg6 : arg6.IsWhole) (arg7 : Memref sig .tc .vmem S1000x16 .f32) (harg7 : arg7.IsWhole) (arg8 : Memref sig .tc .vmem S64x256 .f32) (harg8 : arg8.IsWhole) (arg9 : Memref sig .tc .vmem S64x1 .i32) (harg9 : arg9.IsWhole) (hc : ¬nodeFirst i)
    (x0 : Vec F S1000x128 .f32) (x1 : Vec F S1000x1 .f32) (x2 : Vec F S1x1x1000 .i32) (x3 : Vec F S128x16 .f32) (x4 : Vec F S1x256 .f32) (x5 : Vec F S16x256 .f32) (a : Vec F S64x256 .f32) (s : Vec F S64x1 .i32)
    (E : Set ℕ) (Q : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ owns (c : Thread nD τ) arg8 fullShare a ∗ owns (c : Thread nD τ) arg9 fullShare s
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
              ∗ owns (c : Thread nD τ) arg7 fullShare (k0_pay3 x0 x1 x3) ∗ owns (c : Thread nD τ) arg8 fullShare (nodeAcc x0 x1 x2 x3 x4 x5 a) ∗ owns (c : Thread nD τ) arg9 fullShare (nodeStarts x2 s)) -∗ Q ⟨⟩))
      ⊢ wp frame (wpE (defs₀ (F := F)) Variants.none c none) E (cc0__node_body i arg1 harg1 arg2 harg2 arg3 harg3 arg4 harg4 arg5 harg5 arg6 harg6 arg7 harg7 arg8 harg8 arg9 harg9) Q := by
  simp only [cc0__node_body_eq_skeleton]; unfold cc0__node_body_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%f8, %hf8, H8⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg8.eq_unread hf7; obtain rfl := harg9.eq_unread hf8
  sl_exec (disch := first | sl_exact hc)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr; swap; · iexact H6
    ipureintro
    refine (View.read_writes_full _ _ _ _ _).trans ?_
    congr 1 <;> exact (View.readAt_full _ _ _).trans (by assumption)
  isplitl [H7]
  · iexists _; isplitr; swap; · iexact H7
    ipureintro
    refine (View.read_writes_full _ _ _ _ _).trans ?_
    delta nodeAcc node_run_next.sl.r node_run_next.sl.r_2
    congr 1
    · congr 1 <;> exact (View.readAt_full _ _ _).trans (by assumption)
    · congr 1; exact (View.readAt_full _ _ _).trans (by assumption)
    · exact (View.readAt_full _ _ _).trans (by assumption)
  iexists _; isplitr; swap; · iexact H8
  ipureintro
  refine (View.read_writes_full _ _ _ _ _).trans ?_
  delta nodeStarts node_run_next.sl.r_1 node_run_next.sl.v23
  congr 1
  · congr 1; exact (View.readAt_full _ _ _).trans (by assumption)
  · exact (View.readAt_full _ _ _).trans (by assumption)

end Cert.Proof.Kern

end
-- ==== Proof.NodeDat.lean ====
/-
  The node pass's proof data and its body obligation: the accumulators as a fold over the points.
-/
module

public import proofs.«01_k».proof.Proof.Node

@[expose] public section

set_option maxRecDepth 16384

noncomputable section

namespace Cert.Proof.Kern

open Cert.KernelIdeal Cert.KernelIdeal.Gen

open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 1) (Elt F) ℕ UU ℕ

/-! ## The pipeline's proof data -/

section Data

variable (c : Dev nD) (V : (b : Ref sig .tc) → Buf (Elt F) ((c.tc : Thread nD τ).loc b)) (O : CellTallies nD τ sig (HIx 1))
  (W : Set (SemLoc sig × HIx 1))

/-- Window `w`'s block at point `t`, of its array as the region finds it. -/
def nodeBlk (w : Fin cfg0.W) (t : Fin cfg0.N) : ((cfg0.win w).xblock (cfg0.grid.coords t)).Idx → Elt F (cfg0.win w).elt :=
  ((cfg0.win w).blk t).view.read (Elt F) (V (Pipeline.arrRef spec0 w))

/-- The grid's points by number. -/
def nodePt (n : ℕ) : Fin cfg0.N := ⟨n % 10, lt_of_lt_of_eq (Nat.mod_lt n (by decide)) (show 10 = cfg0.N from N_0.symm)⟩

theorem nodePt_val (t : Fin cfg0.N) : nodePt t.val = t :=
  Fin.ext (Nat.mod_eq_of_lt (lt_of_lt_of_eq t.isLt (show cfg0.N = 10 from N_0)))

/-- The accumulator and the counts after the first `n` points. -/
def nodeFold : ℕ → Vec F S64x256 .f32 × Vec F S64x1 .i32
  | 0 => (k0_pay7, k0_pay8)
  | n + 1 => (nodeAcc (nodeBlk c V 0 (nodePt n)) (nodeBlk c V 1 (nodePt n)) (nodeBlk c V 2 (nodePt n)) (nodeBlk c V 3 (nodePt n))
      (nodeBlk c V 4 (nodePt n)) (nodeBlk c V 5 (nodePt n)) (nodeFold n).1, nodeStarts (nodeBlk c V 2 (nodePt n)) (nodeFold n).2)

/-- The node pass's proof data: the arrays as the region finds them; after the body each input's buffer at its block, the
    features' buffer at the block computed, the accumulators' at the fold so far; the core's debt a constant. -/
def nodeDat : Dat τ (Elt F) (HIx 1) ℕ UU ℕ cfg0 c where
  A w := V (Pipeline.arrRef spec0 w)
  after w t := match w with
    | ⟨0, _⟩ => nodeBlk c V 0 t
    | ⟨1, _⟩ => nodeBlk c V 1 t
    | ⟨2, _⟩ => nodeBlk c V 2 t
    | ⟨3, _⟩ => nodeBlk c V 3 t
    | ⟨4, _⟩ => nodeBlk c V 4 t
    | ⟨5, _⟩ => nodeBlk c V 5 t
    | ⟨6, _⟩ => k0_pay3 (nodeBlk c V 0 t) (nodeBlk c V 1 t) (nodeBlk c V 3 t)
    | ⟨7, _⟩ => (nodeFold c V (t.val + 1)).1
    | ⟨8, _⟩ => (nodeFold c V (t.val + 1)).2
  Φ _ := Pipeline.scopedRest spec0 c
  q _ := fullShare
  owed _ := O
  recorded _ := W

theorem nodeDat_A (w : Fin cfg0.W) : (nodeDat c V O W).A w = V (Pipeline.arrRef spec0 w) := by dsimp only [nodeDat]

theorem node_after_0 (t : Fin cfg0.N) : (nodeDat c V O W).after 0 t = nodeBlk c V 0 t := by dsimp only [nodeDat]
theorem node_after_1 (t : Fin cfg0.N) : (nodeDat c V O W).after 1 t = nodeBlk c V 1 t := by dsimp only [nodeDat]
theorem node_after_2 (t : Fin cfg0.N) : (nodeDat c V O W).after 2 t = nodeBlk c V 2 t := by dsimp only [nodeDat]
theorem node_after_3 (t : Fin cfg0.N) : (nodeDat c V O W).after 3 t = nodeBlk c V 3 t := by dsimp only [nodeDat]
theorem node_after_4 (t : Fin cfg0.N) : (nodeDat c V O W).after 4 t = nodeBlk c V 4 t := by dsimp only [nodeDat]
theorem node_after_5 (t : Fin cfg0.N) : (nodeDat c V O W).after 5 t = nodeBlk c V 5 t := by dsimp only [nodeDat]
theorem node_after_6 (t : Fin cfg0.N) : (nodeDat c V O W).after 6 t = k0_pay3 (nodeBlk c V 0 t) (nodeBlk c V 1 t) (nodeBlk c V 3 t) := by dsimp only [nodeDat]
theorem node_after_7 (t : Fin cfg0.N) : (nodeDat c V O W).after 7 t = (nodeFold c V (t.val + 1)).1 := by dsimp only [nodeDat]
theorem node_after_8 (t : Fin cfg0.N) : (nodeDat c V O W).after 8 t = (nodeFold c V (t.val + 1)).2 := by dsimp only [nodeDat]

/-! Every input's buffer holds its block at every point. -/

theorem node_before_0 (t : Fin cfg0.N) (d) : (nodeDat c V O W).before 0 t d = nodeBlk c V 0 t :=
  ((nodeDat c V O W).before_in_eq_fetched 0 rfl (fun _ => rfl) (fun _ _ _ => rfl) (fun t => by rw [node_after_0]; unfold Dat.blockOf nodeBlk; rw [nodeDat_A]; try rfl) t d).trans
    (by unfold Dat.fetched Dat.blockOf nodeBlk; rw [nodeDat_A]; try rfl)
theorem node_before_1 (t : Fin cfg0.N) (d) : (nodeDat c V O W).before 1 t d = nodeBlk c V 1 t :=
  ((nodeDat c V O W).before_in_eq_fetched 1 rfl (fun _ => rfl) (fun _ _ _ => rfl) (fun t => by rw [node_after_1]; unfold Dat.blockOf nodeBlk; rw [nodeDat_A]; try rfl) t d).trans
    (by unfold Dat.fetched Dat.blockOf nodeBlk; rw [nodeDat_A]; try rfl)
theorem node_before_2 (t : Fin cfg0.N) (d) : (nodeDat c V O W).before 2 t d = nodeBlk c V 2 t :=
  ((nodeDat c V O W).before_in_eq_fetched 2 rfl (fun _ => rfl) (fun _ _ _ => rfl) (fun t => by rw [node_after_2]; unfold Dat.blockOf nodeBlk; rw [nodeDat_A]; try rfl) t d).trans
    (by unfold Dat.fetched Dat.blockOf nodeBlk; rw [nodeDat_A]; try rfl)
theorem node_before_3 (t : Fin cfg0.N) (d) : (nodeDat c V O W).before 3 t d = nodeBlk c V 3 t :=
  ((nodeDat c V O W).before_in_eq_fetched 3 rfl (fun _ => rfl) (fun _ _ _ => rfl) (fun t => by rw [node_after_3]; unfold Dat.blockOf nodeBlk; rw [nodeDat_A]; try rfl) t d).trans
    (by unfold Dat.fetched Dat.blockOf nodeBlk; rw [nodeDat_A]; try rfl)
theorem node_before_4 (t : Fin cfg0.N) (d) : (nodeDat c V O W).before 4 t d = nodeBlk c V 4 t :=
  ((nodeDat c V O W).before_in_eq_fetched 4 rfl (fun _ => rfl) (fun _ _ _ => rfl) (fun t => by rw [node_after_4]; unfold Dat.blockOf nodeBlk; rw [nodeDat_A]; try rfl) t d).trans
    (by unfold Dat.fetched Dat.blockOf nodeBlk; rw [nodeDat_A]; try rfl)
theorem node_before_5 (t : Fin cfg0.N) (d) : (nodeDat c V O W).before 5 t d = nodeBlk c V 5 t :=
  ((nodeDat c V O W).before_in_eq_fetched 5 rfl (fun _ => rfl) (fun _ _ _ => rfl) (fun t => by rw [node_after_5]; unfold Dat.blockOf nodeBlk; rw [nodeDat_A]; try rfl) t d).trans
    (by unfold Dat.fetched Dat.blockOf nodeBlk; rw [nodeDat_A]; try rfl)

theorem node_before_7 (t : Fin cfg0.N) (h0 : ¬t.val % 10 = 0) (d) : (nodeDat c V O W).before 7 t d = (nodeFold c V t.val).1 := by
  have hN : t.val < 10 := lt_of_lt_of_eq t.isLt (show cfg0.N = 10 from N_0)
  rw [Dat.before_out_kept _ 7 rfl t (by omega) (Bool.eq_false_iff.mpr fun h => by have := (flush0_7 _).mp h; dsimp only at this; omega)
    (fun _ => rfl) (fun _ _ => rfl), node_after_7]
  dsimp only
  rw [Nat.sub_add_cancel (by omega)]

theorem node_before_8 (t : Fin cfg0.N) (h0 : ¬t.val % 10 = 0) (d) : (nodeDat c V O W).before 8 t d = (nodeFold c V t.val).2 := by
  have hN : t.val < 10 := lt_of_lt_of_eq t.isLt (show cfg0.N = 10 from N_0)
  rw [Dat.before_out_kept _ 8 rfl t (by omega) (Bool.eq_false_iff.mpr fun h => by have := (flush0_8 _).mp h; dsimp only at this; omega)
    (fun _ => rfl) (fun _ _ => rfl), node_after_8]
  dsimp only
  rw [Nat.sub_add_cancel (by omega)]

/-! ## The body obligation -/

/-- What the body is called with at point `t`, window by window, -/
def nodePre (t : Fin cfg0.N) : sProp 𝕄 :=
  iprop((nodeDat c V O W).Φ t.castSucc ∗ (nodeDat c V O W).owesAt none t.castSucc
    ∗ (∃ d, owns (c : Thread nD τ) (st0_0 t) fullShare ((nodeDat c V O W).before 0 t d))
    ∗ (∃ d, owns (c : Thread nD τ) (st0_1 t) fullShare ((nodeDat c V O W).before 1 t d))
    ∗ (∃ d, owns (c : Thread nD τ) (st0_2 t) fullShare ((nodeDat c V O W).before 2 t d))
    ∗ (∃ d, owns (c : Thread nD τ) (st0_3 t) fullShare ((nodeDat c V O W).before 3 t d))
    ∗ (∃ d, owns (c : Thread nD τ) (st0_4 t) fullShare ((nodeDat c V O W).before 4 t d))
    ∗ (∃ d, owns (c : Thread nD τ) (st0_5 t) fullShare ((nodeDat c V O W).before 5 t d))
    ∗ (∃ d, owns (c : Thread nD τ) (st0_6 t) fullShare ((nodeDat c V O W).before 6 t d))
    ∗ (∃ d, owns (c : Thread nD τ) (st0_7 t) fullShare ((nodeDat c V O W).before 7 t d))
    ∗ (∃ d, owns (c : Thread nD τ) (st0_8 t) fullShare ((nodeDat c V O W).before 8 t d)))

/-- and what it returns. -/
def nodePost (t : Fin cfg0.N) : sProp 𝕄 :=
  iprop((nodeDat c V O W).Φ t.succ ∗ (nodeDat c V O W).owesAt none t.succ
    ∗ owns (c : Thread nD τ) (st0_0 t) fullShare ((nodeDat c V O W).after 0 t)
    ∗ owns (c : Thread nD τ) (st0_1 t) fullShare ((nodeDat c V O W).after 1 t)
    ∗ owns (c : Thread nD τ) (st0_2 t) fullShare ((nodeDat c V O W).after 2 t)
    ∗ owns (c : Thread nD τ) (st0_3 t) fullShare ((nodeDat c V O W).after 3 t)
    ∗ owns (c : Thread nD τ) (st0_4 t) fullShare ((nodeDat c V O W).after 4 t)
    ∗ owns (c : Thread nD τ) (st0_5 t) fullShare ((nodeDat c V O W).after 5 t)
    ∗ owns (c : Thread nD τ) (st0_6 t) fullShare ((nodeDat c V O W).after 6 t)
    ∗ owns (c : Thread nD τ) (st0_7 t) fullShare ((nodeDat c V O W).after 7 t)
    ∗ owns (c : Thread nD τ) (st0_8 t) fullShare ((nodeDat c V O W).after 8 t))

set_option maxHeartbeats 4000000 in
theorem node_sound (t : Fin cfg0.N) :
    nodePre c V O W t ⊢ wp frame (wpE (defs₀ (F := F)) Variants.none c none) Set.univ (bodyAt0 t) (fun _ => nodePost c V O W t) := by
  unfold nodePre nodePost bodyAt0
  simp only [node_before_0, node_before_1, node_before_2, node_before_3, node_before_4, node_before_5]
  rw [show (nodeDat c V O W).Φ t.succ = (nodeDat c V O W).Φ t.castSucc from rfl,
    show (nodeDat c V O W).owesAt none t.succ = (nodeDat c V O W).owesAt none t.castSucc from rfl,
    node_after_0, node_after_1, node_after_2, node_after_3, node_after_4, node_after_5, node_after_6, node_after_7, node_after_8]
  have hfold : nodeFold c V (t.val + 1) = (nodeAcc (nodeBlk c V 0 t) (nodeBlk c V 1 t) (nodeBlk c V 2 t) (nodeBlk c V 3 t)
      (nodeBlk c V 4 t) (nodeBlk c V 5 t) (nodeFold c V t.val).1, nodeStarts (nodeBlk c V 2 t) (nodeFold c V t.val).2) := by
    rw [nodeFold, nodePt_val]
  rw [hfold]
  by_cases h0 : t.val % 10 = 0
  · have hz : t.val = 0 := by have hN : t.val < 10 := lt_of_lt_of_eq t.isLt (show cfg0.N = 10 from N_0); omega
    rw [hz, nodeFold]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply (node_run_first c (grid0.coords t) _ _ _ _ _ _ _ _ _ _ _ _ _ _ _ _ _ _ ((nodeFirst_iff t).mpr h0) (nodeBlk c V 0 t) (nodeBlk c V 1 t) (nodeBlk c V 2 t) (nodeBlk c V 3 t) (nodeBlk c V 4 t) (nodeBlk c V 5 t) Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    isplitl [H8]; · iexists _; iexact H8
    iintro ⟨H0, H1, H2, H3, H4, H5, H6, H7, H8⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8
  · simp only [node_before_7 c V O W t h0, node_before_8 c V O W t h0]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply (node_run_next c (grid0.coords t) _ _ _ _ _ _ _ _ _ _ _ _ _ _ _ _ _ _ (fun h => h0 ((nodeFirst_iff t).mp h)) (nodeBlk c V 0 t) (nodeBlk c V 1 t) (nodeBlk c V 2 t) (nodeBlk c V 3 t) (nodeBlk c V 4 t) (nodeBlk c V 5 t) _ _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexact H7
    isplitl [H8]; · iexact H8
    iintro ⟨H0, H1, H2, H3, H4, H5, H6, H7, H8⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8

/-- The body table's row at a point is the body there. -/
theorem node_row (t : Fin cfg0.N) : defs₀ (F := F) .tc cfg0.body (cfg0.bodyArgs t (cfg0.slots t)) = bodyAt0 t := by
  rfl

theorem node_obligation : BodyObligation (nodeDat c V O W) (defs₀ (F := F)) Variants.none none Set.univ := fun t => by
  rw [bigSep_W0, bigSep_W0, node_row]
  exact triple_restated (node_sound c V O W t) rfl .rfl fun _ => .rfl

end Data

end Cert.Proof.Kern

end
-- ==== Proof.Edge.lean ====
/-
  The edge pass (the second TensorCore region): what one run of its body leaves in its scratch accumulator and, at the
  last step, in the two results' buffers, as named functions of the blocks it reads.
-/
module

public import proofs.«01_k».proof.Proof.NodeDat

@[expose] public section

set_option maxRecDepth 16384

noncomputable section

namespace Cert.Proof.Kern

open Cert.KernelIdeal Cert.KernelIdeal.Gen

open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 1) (Elt F) ℕ UU ℕ

/-! ## One run of the body -/

section Step

variable (x0 x1 : Vec F S2000x128 .f32) (x2 : Vec F S1x2000x8 .f32) (x3 : Vec F S1x8x2000 .i32) (x4 : Vec F S64x1 .i32)
  (x6 : Vec F S1x256 .f32) (x7 : Vec F S16x256 .f32)

/-- The step's sums over its first three lane blocks and part of the fourth, -/
def edgeSumA : Vec F S64x256 .f32 :=
  k2_pay12 (k2_pay5 x0 x1) (k2_pay6 x2) (k2_pay7 x3) (k2_pay8 x4) k2_pay9 (k2_pay10 x0 x1 x2 x7 x6) (k2_pay11 x3 x4) x7 x6
/-- over more of them, -/
def edgeSumB : Vec F S64x256 .f32 :=
  k2_pay15 (k2_pay5 x0 x1) (k2_pay6 x2) (k2_pay7 x3) (k2_pay8 x4) (edgeSumA x0 x1 x2 x3 x4 x6 x7) (k2_pay13 (k2_pay5 x0 x1) (k2_pay6 x2) x7) (k2_pay14 x6) x7 x6
def edgeSumC : Vec F S64x256 .f32 :=
  k2_pay16 (k2_pay5 x0 x1) (k2_pay6 x2) (k2_pay7 x3) (k2_pay8 x4) (edgeSumB x0 x1 x2 x3 x4 x6 x7) x7 x6
def edgeSumD : Vec F S64x256 .f32 :=
  k2_pay18 (k2_pay5 x0 x1) (k2_pay6 x2) (k2_pay7 x3) (k2_pay8 x4) (edgeSumC x0 x1 x2 x3 x4 x6 x7) (k2_pay17 (k2_pay5 x0 x1) (k2_pay6 x2) x7 x6) x7 x6
/-- and the accumulator after the step: what it held, and all eight lane blocks' sums added. -/
def edgeAcc (a : Vec F S64x256 .f32) : Vec F S64x256 .f32 :=
  k2_pay1 (k2_pay7 x3) (k2_pay8 x4) (edgeSumD x0 x1 x2 x3 x4 x6 x7) (k2_pay19 (k2_pay5 x0 x1) x7) (k2_pay20 (k2_pay6 x2)) x6 a

end Step

/-- The first step's branch, from the grid coordinate; -/
abbrev edgeFirst (i : grid2.Coords) : Prop :=
  (Scalar.cmpi .ne (Scalar.extui (Scalar.cmpi .eq (BitVec.ofNat 32 (i 0).val) 0#32)) 0#32) = 1#1
/-- the last step's. -/
abbrev edgeLast (i : grid2.Coords) : Prop := k2_cond2 i = 1#1

theorem edgeFirst_iff (t : Fin cfg2.N) : edgeFirst (grid2.coords t) ↔ t.val % 10 = 0 := by
  have e0 : (grid2.coords t 0).val = t.val / 1 % 10 := Pipeline.Grid.coords_val t 0 (by decide) rfl
  simp only [edgeFirst, e0]
  word_cmp

theorem edgeLast_iff (t : Fin cfg2.N) : edgeLast (grid2.coords t) ↔ t.val % 10 = 9 := by
  have e0 : (grid2.coords t 0).val = t.val / 1 % 10 := Pipeline.Grid.coords_val t 0 (by decide) rfl
  simp only [edgeLast, k2_cond2, e0]
  word_cmp

set_option maxHeartbeats 2000000 in
/-- The body at the first step: the accumulator starts from zero, the results' buffers are handed back as they were. -/
theorem edge_run_first (c : Dev nD) (i : grid2.Coords) (arg1 : Memref sig .tc .vmem S2000x128 .f32) (harg1 : arg1.IsWhole) (arg2 : Memref sig .tc .vmem S2000x128 .f32) (harg2 : arg2.IsWhole) (arg3 : Memref sig .tc .vmem S1x2000x8 .f32) (harg3 : arg3.IsWhole) (arg4 : Memref sig .tc .vmem S1x8x2000 .i32) (harg4 : arg4.IsWhole) (arg5 : Memref sig .tc .vmem S64x1 .i32) (harg5 : arg5.IsWhole) (arg6 : Memref sig .tc .vmem S64x256 .f32) (harg6 : arg6.IsWhole) (arg7 : Memref sig .tc .vmem S1x256 .f32) (harg7 : arg7.IsWhole) (arg8 : Memref sig .tc .vmem S16x256 .f32) (harg8 : arg8.IsWhole) (arg9 : Memref sig .tc .vmem S256x256 .f32) (harg9 : arg9.IsWhole) (arg10 : Memref sig .tc .vmem S1x256 .f32) (harg10 : arg10.IsWhole) (arg11 : Memref sig .tc .vmem S10x256 .f32) (harg11 : arg11.IsWhole) (arg12 : Memref sig .tc .vmem S1x10 .f32) (harg12 : arg12.IsWhole) (arg13 : Memref sig .tc .vmem S64x10 .f32) (harg13 : arg13.IsWhole) (arg14 : Memref sig .tc .vmem S64x256 .f32) (harg14 : arg14.IsWhole) (arg15 : Memref sig .tc .vmem S64x256 .f32) (harg15 : arg15.IsWhole) (hc : edgeFirst i) (hl : ¬edgeLast i)
    (x0 : Vec F S2000x128 .f32) (x1 : Vec F S2000x128 .f32) (x2 : Vec F S1x2000x8 .f32) (x3 : Vec F S1x8x2000 .i32) (x4 : Vec F S64x1 .i32) (x5 : Vec F S64x256 .f32) (x6 : Vec F S1x256 .f32) (x7 : Vec F S16x256 .f32) (x8 : Vec F S256x256 .f32) (x9 : Vec F S1x256 .f32) (x10 : Vec F S10x256 .f32) (x11 : Vec F S1x10 .f32) (x12 : Vec F S64x10 .f32) (x13 : Vec F S64x256 .f32)
    (E : Set ℕ) (Q : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ (∃ d, owns (c : Thread nD τ) arg15 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11
              ∗ owns (c : Thread nD τ) arg13 fullShare x12 ∗ owns (c : Thread nD τ) arg14 fullShare x13 ∗ owns (c : Thread nD τ) arg15 fullShare (edgeAcc x0 x1 x2 x3 x4 x6 x7 k2_pay4)) -∗ Q ⟨⟩))
      ⊢ wp frame (wpE (defs₀ (F := F)) Variants.none c none) E (cc2__edge_body i arg1 harg1 arg2 harg2 arg3 harg3 arg4 harg4 arg5 harg5 arg6 harg6 arg7 harg7 arg8 harg8 arg9 harg9 arg10 harg10 arg11 harg11 arg12 harg12 arg13 harg13 arg14 harg14 arg15 harg15) Q := by
  simp only [cc2__edge_body_eq_skeleton]; unfold cc2__edge_body_skel
  simp only [k2_part1_eq_skeleton, k2_part2_eq_skeleton, k2_part3_eq_skeleton, k2_part4_eq_skeleton, k2_part5_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%d14, %f14, -, H14⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11
  have e0 : View.readAt (Elt F) arg1.view (Rect.unit (s := S2000x128) ![0, 0] S2000x128.size inb_S2000x128_S2000x128_0_0).toLoadRect (harg1.unread x0) = x0 := (View.readAt_full _ _ _).trans hf0
  have e0' : View.readAt (Elt F) arg1.view (Rect.unit (s := S2000x128) ![0, 0] ![2000, 128] inb_S2000x128_S2000x128_0_0).toLoadRect (harg1.unread x0) = x0 := (View.readAt_full _ _ _).trans hf0
  have e1 : View.readAt (Elt F) arg2.view (Rect.unit (s := S2000x128) ![0, 0] S2000x128.size inb_S2000x128_S2000x128_0_0).toLoadRect (harg2.unread x1) = x1 := (View.readAt_full _ _ _).trans hf1
  have e1' : View.readAt (Elt F) arg2.view (Rect.unit (s := S2000x128) ![0, 0] ![2000, 128] inb_S2000x128_S2000x128_0_0).toLoadRect (harg2.unread x1) = x1 := (View.readAt_full _ _ _).trans hf1
  have e2 : View.readAt (Elt F) arg3.view (Rect.unit (s := S1x2000x8) ![0, 0, 0] S1x2000x8.size inb_S1x2000x8_S1x2000x8_0_0_0).toLoadRect (harg3.unread x2) = x2 := (View.readAt_full _ _ _).trans hf2
  have e2' : View.readAt (Elt F) arg3.view (Rect.unit (s := S1x2000x8) ![0, 0, 0] ![1, 2000, 8] inb_S1x2000x8_S1x2000x8_0_0_0).toLoadRect (harg3.unread x2) = x2 := (View.readAt_full _ _ _).trans hf2
  have e3 : View.readAt (Elt F) arg4.view (Rect.unit (s := S1x8x2000) ![0, 0, 0] S1x8x2000.size inb_S1x8x2000_S1x8x2000_0_0_0).toLoadRect (harg4.unread x3) = x3 := (View.readAt_full _ _ _).trans hf3
  have e3' : View.readAt (Elt F) arg4.view (Rect.unit (s := S1x8x2000) ![0, 0, 0] ![1, 8, 2000] inb_S1x8x2000_S1x8x2000_0_0_0).toLoadRect (harg4.unread x3) = x3 := (View.readAt_full _ _ _).trans hf3
  have e4 : View.readAt (Elt F) arg5.view (Rect.unit (s := S64x1) ![0, 0] S64x1.size inb_S64x1_S64x1_0_0).toLoadRect (harg5.unread x4) = x4 := (View.readAt_full _ _ _).trans hf4
  have e4' : View.readAt (Elt F) arg5.view (Rect.unit (s := S64x1) ![0, 0] ![64, 1] inb_S64x1_S64x1_0_0).toLoadRect (harg5.unread x4) = x4 := (View.readAt_full _ _ _).trans hf4
  have e5 : View.readAt (Elt F) arg6.view (Rect.unit (s := S64x256) ![0, 0] S64x256.size inb_S64x256_S64x256_0_0).toLoadRect (harg6.unread x5) = x5 := (View.readAt_full _ _ _).trans hf5
  have e5' : View.readAt (Elt F) arg6.view (Rect.unit (s := S64x256) ![0, 0] ![64, 256] inb_S64x256_S64x256_0_0).toLoadRect (harg6.unread x5) = x5 := (View.readAt_full _ _ _).trans hf5
  have e6 : View.readAt (Elt F) arg7.view (Rect.unit (s := S1x256) ![0, 0] S1x256.size inb_S1x256_S1x256_0_0).toLoadRect (harg7.unread x6) = x6 := (View.readAt_full _ _ _).trans hf6
  have e6' : View.readAt (Elt F) arg7.view (Rect.unit (s := S1x256) ![0, 0] ![1, 256] inb_S1x256_S1x256_0_0).toLoadRect (harg7.unread x6) = x6 := (View.readAt_full _ _ _).trans hf6
  have e7 : View.readAt (Elt F) arg8.view (Rect.unit (s := S16x256) ![0, 0] S16x256.size inb_S16x256_S16x256_0_0).toLoadRect (harg8.unread x7) = x7 := (View.readAt_full _ _ _).trans hf7
  have e7' : View.readAt (Elt F) arg8.view (Rect.unit (s := S16x256) ![0, 0] ![16, 256] inb_S16x256_S16x256_0_0).toLoadRect (harg8.unread x7) = x7 := (View.readAt_full _ _ _).trans hf7
  have e8 : View.readAt (Elt F) arg9.view (Rect.unit (s := S256x256) ![0, 0] S256x256.size inb_S256x256_S256x256_0_0).toLoadRect (harg9.unread x8) = x8 := (View.readAt_full _ _ _).trans hf8
  have e8' : View.readAt (Elt F) arg9.view (Rect.unit (s := S256x256) ![0, 0] ![256, 256] inb_S256x256_S256x256_0_0).toLoadRect (harg9.unread x8) = x8 := (View.readAt_full _ _ _).trans hf8
  have e9 : View.readAt (Elt F) arg10.view (Rect.unit (s := S1x256) ![0, 0] S1x256.size inb_S1x256_S1x256_0_0).toLoadRect (harg10.unread x9) = x9 := (View.readAt_full _ _ _).trans hf9
  have e9' : View.readAt (Elt F) arg10.view (Rect.unit (s := S1x256) ![0, 0] ![1, 256] inb_S1x256_S1x256_0_0).toLoadRect (harg10.unread x9) = x9 := (View.readAt_full _ _ _).trans hf9
  have e10 : View.readAt (Elt F) arg11.view (Rect.unit (s := S10x256) ![0, 0] S10x256.size inb_S10x256_S10x256_0_0).toLoadRect (harg11.unread x10) = x10 := (View.readAt_full _ _ _).trans hf10
  have e10' : View.readAt (Elt F) arg11.view (Rect.unit (s := S10x256) ![0, 0] ![10, 256] inb_S10x256_S10x256_0_0).toLoadRect (harg11.unread x10) = x10 := (View.readAt_full _ _ _).trans hf10
  have e11 : View.readAt (Elt F) arg12.view (Rect.unit (s := S1x10) ![0, 0] S1x10.size inb_S1x10_S1x10_0_0).toLoadRect (harg12.unread x11) = x11 := (View.readAt_full _ _ _).trans hf11
  have e11' : View.readAt (Elt F) arg12.view (Rect.unit (s := S1x10) ![0, 0] ![1, 10] inb_S1x10_S1x10_0_0).toLoadRect (harg12.unread x11) = x11 := (View.readAt_full _ _ _).trans hf11
  sl_exec (disch := first | sl_exact hc | sl_exact hl)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr; · ipureintro; exact harg7.read_unread _
    iexact H6
  isplitl [H7]
  · iexists _; isplitr; · ipureintro; exact harg8.read_unread _
    iexact H7
  isplitl [H8]
  · iexists _; isplitr; · ipureintro; exact harg9.read_unread _
    iexact H8
  isplitl [H9]
  · iexists _; isplitr; · ipureintro; exact harg10.read_unread _
    iexact H9
  isplitl [H10]
  · iexists _; isplitr; · ipureintro; exact harg11.read_unread _
    iexact H10
  isplitl [H11]
  · iexists _; isplitr; · ipureintro; exact harg12.read_unread _
    iexact H11
  isplitl [H12]; · iexists _; isplitr; swap; · iexact H12
                   ipureintro; exact hf12
  isplitl [H13]; · iexists _; isplitr; swap; · iexact H13
                   ipureintro; exact hf13
  iexists _; isplitr; swap; · iexact H14
  ipureintro
  refine (View.read_writes_full _ _ _ _ _).trans ?_
  repeat (first | delta edge_run_first.sl.v235 | delta edge_run_first.sl.v245 | delta edge_run_first.sl.v243 | delta edge_run_first.sl.H14_1 | delta edge_run_first.sl.H14_2 | delta edge_run_first.sl.r_14 | delta edge_run_first.sl.r_13 | delta edge_run_first.sl.r_12 | delta edge_run_first.sl.r_11 | delta edge_run_first.sl.r_10 | delta edge_run_first.sl.r_9 | delta edge_run_first.sl.r_8 | delta edge_run_first.sl.r_7 | delta edge_run_first.sl.r_6 | delta edge_run_first.sl.r_5 | delta edge_run_first.sl.r_4 | delta edge_run_first.sl.r_3 | delta edge_run_first.sl.r_2 | delta edge_run_first.sl.r_1 | delta edge_run_first.sl.r)
  simp only [e0, e1, e2, e3, e4, e5, e6, e7, e8, e9, e10, e11, e0', e1', e2', e3', e4', e5', e6', e7', e8', e9', e10', e11']
  exact congrArg (edgeAcc x0 x1 x2 x3 x4 x6 x7) (View.readCov_full _ _ _ _ _)

set_option maxHeartbeats 2000000 in
/-- The body at a later step but the last: the accumulator goes on. -/
theorem edge_run_next (c : Dev nD) (i : grid2.Coords) (arg1 : Memref sig .tc .vmem S2000x128 .f32) (harg1 : arg1.IsWhole) (arg2 : Memref sig .tc .vmem S2000x128 .f32) (harg2 : arg2.IsWhole) (arg3 : Memref sig .tc .vmem S1x2000x8 .f32) (harg3 : arg3.IsWhole) (arg4 : Memref sig .tc .vmem S1x8x2000 .i32) (harg4 : arg4.IsWhole) (arg5 : Memref sig .tc .vmem S64x1 .i32) (harg5 : arg5.IsWhole) (arg6 : Memref sig .tc .vmem S64x256 .f32) (harg6 : arg6.IsWhole) (arg7 : Memref sig .tc .vmem S1x256 .f32) (harg7 : arg7.IsWhole) (arg8 : Memref sig .tc .vmem S16x256 .f32) (harg8 : arg8.IsWhole) (arg9 : Memref sig .tc .vmem S256x256 .f32) (harg9 : arg9.IsWhole) (arg10 : Memref sig .tc .vmem S1x256 .f32) (harg10 : arg10.IsWhole) (arg11 : Memref sig .tc .vmem S10x256 .f32) (harg11 : arg11.IsWhole) (arg12 : Memref sig .tc .vmem S1x10 .f32) (harg12 : arg12.IsWhole) (arg13 : Memref sig .tc .vmem S64x10 .f32) (harg13 : arg13.IsWhole) (arg14 : Memref sig .tc .vmem S64x256 .f32) (harg14 : arg14.IsWhole) (arg15 : Memref sig .tc .vmem S64x256 .f32) (harg15 : arg15.IsWhole) (hc : ¬edgeFirst i) (hl : ¬edgeLast i)
    (x0 : Vec F S2000x128 .f32) (x1 : Vec F S2000x128 .f32) (x2 : Vec F S1x2000x8 .f32) (x3 : Vec F S1x8x2000 .i32) (x4 : Vec F S64x1 .i32) (x5 : Vec F S64x256 .f32) (x6 : Vec F S1x256 .f32) (x7 : Vec F S16x256 .f32) (x8 : Vec F S256x256 .f32) (x9 : Vec F S1x256 .f32) (x10 : Vec F S10x256 .f32) (x11 : Vec F S1x10 .f32) (x12 : Vec F S64x10 .f32) (x13 : Vec F S64x256 .f32) (a : Vec F S64x256 .f32)
    (E : Set ℕ) (Q : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare a
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11
              ∗ owns (c : Thread nD τ) arg13 fullShare x12 ∗ owns (c : Thread nD τ) arg14 fullShare x13 ∗ owns (c : Thread nD τ) arg15 fullShare (edgeAcc x0 x1 x2 x3 x4 x6 x7 a)) -∗ Q ⟨⟩))
      ⊢ wp frame (wpE (defs₀ (F := F)) Variants.none c none) E (cc2__edge_body i arg1 harg1 arg2 harg2 arg3 harg3 arg4 harg4 arg5 harg5 arg6 harg6 arg7 harg7 arg8 harg8 arg9 harg9 arg10 harg10 arg11 harg11 arg12 harg12 arg13 harg13 arg14 harg14 arg15 harg15) Q := by
  simp only [cc2__edge_body_eq_skeleton]; unfold cc2__edge_body_skel
  simp only [k2_part1_eq_skeleton, k2_part2_eq_skeleton, k2_part3_eq_skeleton, k2_part4_eq_skeleton, k2_part5_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg15.eq_unread hf14
  have e0 : View.readAt (Elt F) arg1.view (Rect.unit (s := S2000x128) ![0, 0] S2000x128.size inb_S2000x128_S2000x128_0_0).toLoadRect (harg1.unread x0) = x0 := (View.readAt_full _ _ _).trans hf0
  have e0' : View.readAt (Elt F) arg1.view (Rect.unit (s := S2000x128) ![0, 0] ![2000, 128] inb_S2000x128_S2000x128_0_0).toLoadRect (harg1.unread x0) = x0 := (View.readAt_full _ _ _).trans hf0
  have e1 : View.readAt (Elt F) arg2.view (Rect.unit (s := S2000x128) ![0, 0] S2000x128.size inb_S2000x128_S2000x128_0_0).toLoadRect (harg2.unread x1) = x1 := (View.readAt_full _ _ _).trans hf1
  have e1' : View.readAt (Elt F) arg2.view (Rect.unit (s := S2000x128) ![0, 0] ![2000, 128] inb_S2000x128_S2000x128_0_0).toLoadRect (harg2.unread x1) = x1 := (View.readAt_full _ _ _).trans hf1
  have e2 : View.readAt (Elt F) arg3.view (Rect.unit (s := S1x2000x8) ![0, 0, 0] S1x2000x8.size inb_S1x2000x8_S1x2000x8_0_0_0).toLoadRect (harg3.unread x2) = x2 := (View.readAt_full _ _ _).trans hf2
  have e2' : View.readAt (Elt F) arg3.view (Rect.unit (s := S1x2000x8) ![0, 0, 0] ![1, 2000, 8] inb_S1x2000x8_S1x2000x8_0_0_0).toLoadRect (harg3.unread x2) = x2 := (View.readAt_full _ _ _).trans hf2
  have e3 : View.readAt (Elt F) arg4.view (Rect.unit (s := S1x8x2000) ![0, 0, 0] S1x8x2000.size inb_S1x8x2000_S1x8x2000_0_0_0).toLoadRect (harg4.unread x3) = x3 := (View.readAt_full _ _ _).trans hf3
  have e3' : View.readAt (Elt F) arg4.view (Rect.unit (s := S1x8x2000) ![0, 0, 0] ![1, 8, 2000] inb_S1x8x2000_S1x8x2000_0_0_0).toLoadRect (harg4.unread x3) = x3 := (View.readAt_full _ _ _).trans hf3
  have e4 : View.readAt (Elt F) arg5.view (Rect.unit (s := S64x1) ![0, 0] S64x1.size inb_S64x1_S64x1_0_0).toLoadRect (harg5.unread x4) = x4 := (View.readAt_full _ _ _).trans hf4
  have e4' : View.readAt (Elt F) arg5.view (Rect.unit (s := S64x1) ![0, 0] ![64, 1] inb_S64x1_S64x1_0_0).toLoadRect (harg5.unread x4) = x4 := (View.readAt_full _ _ _).trans hf4
  have e5 : View.readAt (Elt F) arg6.view (Rect.unit (s := S64x256) ![0, 0] S64x256.size inb_S64x256_S64x256_0_0).toLoadRect (harg6.unread x5) = x5 := (View.readAt_full _ _ _).trans hf5
  have e5' : View.readAt (Elt F) arg6.view (Rect.unit (s := S64x256) ![0, 0] ![64, 256] inb_S64x256_S64x256_0_0).toLoadRect (harg6.unread x5) = x5 := (View.readAt_full _ _ _).trans hf5
  have e6 : View.readAt (Elt F) arg7.view (Rect.unit (s := S1x256) ![0, 0] S1x256.size inb_S1x256_S1x256_0_0).toLoadRect (harg7.unread x6) = x6 := (View.readAt_full _ _ _).trans hf6
  have e6' : View.readAt (Elt F) arg7.view (Rect.unit (s := S1x256) ![0, 0] ![1, 256] inb_S1x256_S1x256_0_0).toLoadRect (harg7.unread x6) = x6 := (View.readAt_full _ _ _).trans hf6
  have e7 : View.readAt (Elt F) arg8.view (Rect.unit (s := S16x256) ![0, 0] S16x256.size inb_S16x256_S16x256_0_0).toLoadRect (harg8.unread x7) = x7 := (View.readAt_full _ _ _).trans hf7
  have e7' : View.readAt (Elt F) arg8.view (Rect.unit (s := S16x256) ![0, 0] ![16, 256] inb_S16x256_S16x256_0_0).toLoadRect (harg8.unread x7) = x7 := (View.readAt_full _ _ _).trans hf7
  have e8 : View.readAt (Elt F) arg9.view (Rect.unit (s := S256x256) ![0, 0] S256x256.size inb_S256x256_S256x256_0_0).toLoadRect (harg9.unread x8) = x8 := (View.readAt_full _ _ _).trans hf8
  have e8' : View.readAt (Elt F) arg9.view (Rect.unit (s := S256x256) ![0, 0] ![256, 256] inb_S256x256_S256x256_0_0).toLoadRect (harg9.unread x8) = x8 := (View.readAt_full _ _ _).trans hf8
  have e9 : View.readAt (Elt F) arg10.view (Rect.unit (s := S1x256) ![0, 0] S1x256.size inb_S1x256_S1x256_0_0).toLoadRect (harg10.unread x9) = x9 := (View.readAt_full _ _ _).trans hf9
  have e9' : View.readAt (Elt F) arg10.view (Rect.unit (s := S1x256) ![0, 0] ![1, 256] inb_S1x256_S1x256_0_0).toLoadRect (harg10.unread x9) = x9 := (View.readAt_full _ _ _).trans hf9
  have e10 : View.readAt (Elt F) arg11.view (Rect.unit (s := S10x256) ![0, 0] S10x256.size inb_S10x256_S10x256_0_0).toLoadRect (harg11.unread x10) = x10 := (View.readAt_full _ _ _).trans hf10
  have e10' : View.readAt (Elt F) arg11.view (Rect.unit (s := S10x256) ![0, 0] ![10, 256] inb_S10x256_S10x256_0_0).toLoadRect (harg11.unread x10) = x10 := (View.readAt_full _ _ _).trans hf10
  have e11 : View.readAt (Elt F) arg12.view (Rect.unit (s := S1x10) ![0, 0] S1x10.size inb_S1x10_S1x10_0_0).toLoadRect (harg12.unread x11) = x11 := (View.readAt_full _ _ _).trans hf11
  have e11' : View.readAt (Elt F) arg12.view (Rect.unit (s := S1x10) ![0, 0] ![1, 10] inb_S1x10_S1x10_0_0).toLoadRect (harg12.unread x11) = x11 := (View.readAt_full _ _ _).trans hf11
  have e14 : View.readAt (Elt F) arg15.view (Rect.unit (s := S64x256) ![0, 0] S64x256.size inb_S64x256_S64x256_0_0).toLoadRect (harg15.unread a) = a := (View.readAt_full _ _ _).trans hf14
  have e14' : View.readAt (Elt F) arg15.view (Rect.unit (s := S64x256) ![0, 0] ![64, 256] inb_S64x256_S64x256_0_0).toLoadRect (harg15.unread a) = a := (View.readAt_full _ _ _).trans hf14
  sl_exec (disch := first | sl_exact hc | sl_exact hl)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr; · ipureintro; exact harg7.read_unread _
    iexact H6
  isplitl [H7]
  · iexists _; isplitr; · ipureintro; exact harg8.read_unread _
    iexact H7
  isplitl [H8]
  · iexists _; isplitr; · ipureintro; exact harg9.read_unread _
    iexact H8
  isplitl [H9]
  · iexists _; isplitr; · ipureintro; exact harg10.read_unread _
    iexact H9
  isplitl [H10]
  · iexists _; isplitr; · ipureintro; exact harg11.read_unread _
    iexact H10
  isplitl [H11]
  · iexists _; isplitr; · ipureintro; exact harg12.read_unread _
    iexact H11
  isplitl [H12]; · iexists _; isplitr; swap; · iexact H12
                   ipureintro; exact hf12
  isplitl [H13]; · iexists _; isplitr; swap; · iexact H13
                   ipureintro; exact hf13
  iexists _; isplitr; swap; · iexact H14
  ipureintro
  refine (View.read_writes_full _ _ _ _ _).trans ?_
  repeat (first | delta edge_run_next.sl.v235 | delta edge_run_next.sl.v245 | delta edge_run_next.sl.v243 | delta edge_run_next.sl.H14_1 | delta edge_run_next.sl.H14_2 | delta edge_run_next.sl.r_14 | delta edge_run_next.sl.r_13 | delta edge_run_next.sl.r_12 | delta edge_run_next.sl.r_11 | delta edge_run_next.sl.r_10 | delta edge_run_next.sl.r_9 | delta edge_run_next.sl.r_8 | delta edge_run_next.sl.r_7 | delta edge_run_next.sl.r_6 | delta edge_run_next.sl.r_5 | delta edge_run_next.sl.r_4 | delta edge_run_next.sl.r_3 | delta edge_run_next.sl.r_2 | delta edge_run_next.sl.r_1 | delta edge_run_next.sl.r)
  rfl

set_option maxHeartbeats 2000000 in
/-- The body at the last step: the accumulator goes on, and the results are computed from it. -/
theorem edge_run_last (c : Dev nD) (i : grid2.Coords) (arg1 : Memref sig .tc .vmem S2000x128 .f32) (harg1 : arg1.IsWhole) (arg2 : Memref sig .tc .vmem S2000x128 .f32) (harg2 : arg2.IsWhole) (arg3 : Memref sig .tc .vmem S1x2000x8 .f32) (harg3 : arg3.IsWhole) (arg4 : Memref sig .tc .vmem S1x8x2000 .i32) (harg4 : arg4.IsWhole) (arg5 : Memref sig .tc .vmem S64x1 .i32) (harg5 : arg5.IsWhole) (arg6 : Memref sig .tc .vmem S64x256 .f32) (harg6 : arg6.IsWhole) (arg7 : Memref sig .tc .vmem S1x256 .f32) (harg7 : arg7.IsWhole) (arg8 : Memref sig .tc .vmem S16x256 .f32) (harg8 : arg8.IsWhole) (arg9 : Memref sig .tc .vmem S256x256 .f32) (harg9 : arg9.IsWhole) (arg10 : Memref sig .tc .vmem S1x256 .f32) (harg10 : arg10.IsWhole) (arg11 : Memref sig .tc .vmem S10x256 .f32) (harg11 : arg11.IsWhole) (arg12 : Memref sig .tc .vmem S1x10 .f32) (harg12 : arg12.IsWhole) (arg13 : Memref sig .tc .vmem S64x10 .f32) (harg13 : arg13.IsWhole) (arg14 : Memref sig .tc .vmem S64x256 .f32) (harg14 : arg14.IsWhole) (arg15 : Memref sig .tc .vmem S64x256 .f32) (harg15 : arg15.IsWhole) (hc : ¬edgeFirst i) (hl : edgeLast i)
    (x0 : Vec F S2000x128 .f32) (x1 : Vec F S2000x128 .f32) (x2 : Vec F S1x2000x8 .f32) (x3 : Vec F S1x8x2000 .i32) (x4 : Vec F S64x1 .i32) (x5 : Vec F S64x256 .f32) (x6 : Vec F S1x256 .f32) (x7 : Vec F S16x256 .f32) (x8 : Vec F S256x256 .f32) (x9 : Vec F S1x256 .f32) (x10 : Vec F S10x256 .f32) (x11 : Vec F S1x10 .f32) (a : Vec F S64x256 .f32)
    (E : Set ℕ) (Q : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ (∃ d, owns (c : Thread nD τ) arg13 fullShare d) ∗ (∃ d, owns (c : Thread nD τ) arg14 fullShare d) ∗ owns (c : Thread nD τ) arg15 fullShare a
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11
              ∗ owns (c : Thread nD τ) arg13 fullShare (k2_pay3 x5 (edgeAcc x0 x1 x2 x3 x4 x6 x7 a) x8 x9 x10 x11) ∗ owns (c : Thread nD τ) arg14 fullShare (k2_pay2 x5 (edgeAcc x0 x1 x2 x3 x4 x6 x7 a)) ∗ owns (c : Thread nD τ) arg15 fullShare (edgeAcc x0 x1 x2 x3 x4 x6 x7 a)) -∗ Q ⟨⟩))
      ⊢ wp frame (wpE (defs₀ (F := F)) Variants.none c none) E (cc2__edge_body i arg1 harg1 arg2 harg2 arg3 harg3 arg4 harg4 arg5 harg5 arg6 harg6 arg7 harg7 arg8 harg8 arg9 harg9 arg10 harg10 arg11 harg11 arg12 harg12 arg13 harg13 arg14 harg14 arg15 harg15) Q := by
  simp only [cc2__edge_body_eq_skeleton]; unfold cc2__edge_body_skel
  simp only [k2_part1_eq_skeleton, k2_part2_eq_skeleton, k2_part3_eq_skeleton, k2_part4_eq_skeleton, k2_part5_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, -, H12⟩, ⟨%d13, %f13, -, H13⟩, ⟨%f14, %hf14, H14⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg15.eq_unread hf14
  have e0 : View.readAt (Elt F) arg1.view (Rect.unit (s := S2000x128) ![0, 0] S2000x128.size inb_S2000x128_S2000x128_0_0).toLoadRect (harg1.unread x0) = x0 := (View.readAt_full _ _ _).trans hf0
  have e0' : View.readAt (Elt F) arg1.view (Rect.unit (s := S2000x128) ![0, 0] ![2000, 128] inb_S2000x128_S2000x128_0_0).toLoadRect (harg1.unread x0) = x0 := (View.readAt_full _ _ _).trans hf0
  have e1 : View.readAt (Elt F) arg2.view (Rect.unit (s := S2000x128) ![0, 0] S2000x128.size inb_S2000x128_S2000x128_0_0).toLoadRect (harg2.unread x1) = x1 := (View.readAt_full _ _ _).trans hf1
  have e1' : View.readAt (Elt F) arg2.view (Rect.unit (s := S2000x128) ![0, 0] ![2000, 128] inb_S2000x128_S2000x128_0_0).toLoadRect (harg2.unread x1) = x1 := (View.readAt_full _ _ _).trans hf1
  have e2 : View.readAt (Elt F) arg3.view (Rect.unit (s := S1x2000x8) ![0, 0, 0] S1x2000x8.size inb_S1x2000x8_S1x2000x8_0_0_0).toLoadRect (harg3.unread x2) = x2 := (View.readAt_full _ _ _).trans hf2
  have e2' : View.readAt (Elt F) arg3.view (Rect.unit (s := S1x2000x8) ![0, 0, 0] ![1, 2000, 8] inb_S1x2000x8_S1x2000x8_0_0_0).toLoadRect (harg3.unread x2) = x2 := (View.readAt_full _ _ _).trans hf2
  have e3 : View.readAt (Elt F) arg4.view (Rect.unit (s := S1x8x2000) ![0, 0, 0] S1x8x2000.size inb_S1x8x2000_S1x8x2000_0_0_0).toLoadRect (harg4.unread x3) = x3 := (View.readAt_full _ _ _).trans hf3
  have e3' : View.readAt (Elt F) arg4.view (Rect.unit (s := S1x8x2000) ![0, 0, 0] ![1, 8, 2000] inb_S1x8x2000_S1x8x2000_0_0_0).toLoadRect (harg4.unread x3) = x3 := (View.readAt_full _ _ _).trans hf3
  have e4 : View.readAt (Elt F) arg5.view (Rect.unit (s := S64x1) ![0, 0] S64x1.size inb_S64x1_S64x1_0_0).toLoadRect (harg5.unread x4) = x4 := (View.readAt_full _ _ _).trans hf4
  have e4' : View.readAt (Elt F) arg5.view (Rect.unit (s := S64x1) ![0, 0] ![64, 1] inb_S64x1_S64x1_0_0).toLoadRect (harg5.unread x4) = x4 := (View.readAt_full _ _ _).trans hf4
  have e5 : View.readAt (Elt F) arg6.view (Rect.unit (s := S64x256) ![0, 0] S64x256.size inb_S64x256_S64x256_0_0).toLoadRect (harg6.unread x5) = x5 := (View.readAt_full _ _ _).trans hf5
  have e5' : View.readAt (Elt F) arg6.view (Rect.unit (s := S64x256) ![0, 0] ![64, 256] inb_S64x256_S64x256_0_0).toLoadRect (harg6.unread x5) = x5 := (View.readAt_full _ _ _).trans hf5
  have e6 : View.readAt (Elt F) arg7.view (Rect.unit (s := S1x256) ![0, 0] S1x256.size inb_S1x256_S1x256_0_0).toLoadRect (harg7.unread x6) = x6 := (View.readAt_full _ _ _).trans hf6
  have e6' : View.readAt (Elt F) arg7.view (Rect.unit (s := S1x256) ![0, 0] ![1, 256] inb_S1x256_S1x256_0_0).toLoadRect (harg7.unread x6) = x6 := (View.readAt_full _ _ _).trans hf6
  have e7 : View.readAt (Elt F) arg8.view (Rect.unit (s := S16x256) ![0, 0] S16x256.size inb_S16x256_S16x256_0_0).toLoadRect (harg8.unread x7) = x7 := (View.readAt_full _ _ _).trans hf7
  have e7' : View.readAt (Elt F) arg8.view (Rect.unit (s := S16x256) ![0, 0] ![16, 256] inb_S16x256_S16x256_0_0).toLoadRect (harg8.unread x7) = x7 := (View.readAt_full _ _ _).trans hf7
  have e8 : View.readAt (Elt F) arg9.view (Rect.unit (s := S256x256) ![0, 0] S256x256.size inb_S256x256_S256x256_0_0).toLoadRect (harg9.unread x8) = x8 := (View.readAt_full _ _ _).trans hf8
  have e8' : View.readAt (Elt F) arg9.view (Rect.unit (s := S256x256) ![0, 0] ![256, 256] inb_S256x256_S256x256_0_0).toLoadRect (harg9.unread x8) = x8 := (View.readAt_full _ _ _).trans hf8
  have e9 : View.readAt (Elt F) arg10.view (Rect.unit (s := S1x256) ![0, 0] S1x256.size inb_S1x256_S1x256_0_0).toLoadRect (harg10.unread x9) = x9 := (View.readAt_full _ _ _).trans hf9
  have e9' : View.readAt (Elt F) arg10.view (Rect.unit (s := S1x256) ![0, 0] ![1, 256] inb_S1x256_S1x256_0_0).toLoadRect (harg10.unread x9) = x9 := (View.readAt_full _ _ _).trans hf9
  have e10 : View.readAt (Elt F) arg11.view (Rect.unit (s := S10x256) ![0, 0] S10x256.size inb_S10x256_S10x256_0_0).toLoadRect (harg11.unread x10) = x10 := (View.readAt_full _ _ _).trans hf10
  have e10' : View.readAt (Elt F) arg11.view (Rect.unit (s := S10x256) ![0, 0] ![10, 256] inb_S10x256_S10x256_0_0).toLoadRect (harg11.unread x10) = x10 := (View.readAt_full _ _ _).trans hf10
  have e11 : View.readAt (Elt F) arg12.view (Rect.unit (s := S1x10) ![0, 0] S1x10.size inb_S1x10_S1x10_0_0).toLoadRect (harg12.unread x11) = x11 := (View.readAt_full _ _ _).trans hf11
  have e11' : View.readAt (Elt F) arg12.view (Rect.unit (s := S1x10) ![0, 0] ![1, 10] inb_S1x10_S1x10_0_0).toLoadRect (harg12.unread x11) = x11 := (View.readAt_full _ _ _).trans hf11
  have e14 : View.readAt (Elt F) arg15.view (Rect.unit (s := S64x256) ![0, 0] S64x256.size inb_S64x256_S64x256_0_0).toLoadRect (harg15.unread a) = a := (View.readAt_full _ _ _).trans hf14
  have e14' : View.readAt (Elt F) arg15.view (Rect.unit (s := S64x256) ![0, 0] ![64, 256] inb_S64x256_S64x256_0_0).toLoadRect (harg15.unread a) = a := (View.readAt_full _ _ _).trans hf14
  sl_exec (disch := first | sl_exact hc | sl_exact hl)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr; · ipureintro; exact harg7.read_unread _
    iexact H6
  isplitl [H7]
  · iexists _; isplitr; · ipureintro; exact harg8.read_unread _
    iexact H7
  isplitl [H8]
  · iexists _; isplitr; · ipureintro; exact harg9.read_unread _
    iexact H8
  isplitl [H9]
  · iexists _; isplitr; · ipureintro; exact harg10.read_unread _
    iexact H9
  isplitl [H10]
  · iexists _; isplitr; · ipureintro; exact harg11.read_unread _
    iexact H10
  isplitl [H11]
  · iexists _; isplitr; · ipureintro; exact harg12.read_unread _
    iexact H11
  isplitl [H12]
  · iexists _; isplitr; swap; · iexact H12
    ipureintro
    refine (View.read_writes_full _ _ _ _ _).trans ?_
    repeat (first | delta edge_run_last.sl.v235 | delta edge_run_last.sl.v245 | delta edge_run_last.sl.v243 | delta edge_run_last.sl.H14_1 | delta edge_run_last.sl.H14_2 | delta edge_run_last.sl.r_14 | delta edge_run_last.sl.r_13 | delta edge_run_last.sl.r_12 | delta edge_run_last.sl.r_11 | delta edge_run_last.sl.r_10 | delta edge_run_last.sl.r_9 | delta edge_run_last.sl.r_8 | delta edge_run_last.sl.r_7 | delta edge_run_last.sl.r_6 | delta edge_run_last.sl.r_5 | delta edge_run_last.sl.r_4 | delta edge_run_last.sl.r_3 | delta edge_run_last.sl.r_2 | delta edge_run_last.sl.r_1 | delta edge_run_last.sl.r)
    simp only [e0, e1, e2, e3, e4, e5, e6, e7, e8, e9, e10, e11, e14, e0', e1', e2', e3', e4', e5', e6', e7', e8', e9', e10', e11', e14']
    exact congrArg (fun z => k2_pay3 x5 z x8 x9 x10 x11) (View.readCov_full _ _ _ _ _)
  isplitl [H13]
  · iexists _; isplitr; swap; · iexact H13
    ipureintro
    refine (View.read_writes_full _ _ _ _ _).trans ?_
    repeat (first | delta edge_run_last.sl.v235 | delta edge_run_last.sl.v245 | delta edge_run_last.sl.v243 | delta edge_run_last.sl.H14_1 | delta edge_run_last.sl.H14_2 | delta edge_run_last.sl.r_14 | delta edge_run_last.sl.r_13 | delta edge_run_last.sl.r_12 | delta edge_run_last.sl.r_11 | delta edge_run_last.sl.r_10 | delta edge_run_last.sl.r_9 | delta edge_run_last.sl.r_8 | delta edge_run_last.sl.r_7 | delta edge_run_last.sl.r_6 | delta edge_run_last.sl.r_5 | delta edge_run_last.sl.r_4 | delta edge_run_last.sl.r_3 | delta edge_run_last.sl.r_2 | delta edge_run_last.sl.r_1 | delta edge_run_last.sl.r)
    simp only [e0, e1, e2, e3, e4, e5, e6, e7, e8, e9, e10, e11, e14, e0', e1', e2', e3', e4', e5', e6', e7', e8', e9', e10', e11', e14']
    exact congrArg (k2_pay2 x5) (View.readCov_full _ _ _ _ _)
  iexists _; isplitr; swap; · iexact H14
  ipureintro
  refine (View.read_writes_full _ _ _ _ _).trans ?_
  repeat (first | delta edge_run_last.sl.v235 | delta edge_run_last.sl.v245 | delta edge_run_last.sl.v243 | delta edge_run_last.sl.H14_1 | delta edge_run_last.sl.H14_2 | delta edge_run_last.sl.r_14 | delta edge_run_last.sl.r_13 | delta edge_run_last.sl.r_12 | delta edge_run_last.sl.r_11 | delta edge_run_last.sl.r_10 | delta edge_run_last.sl.r_9 | delta edge_run_last.sl.r_8 | delta edge_run_last.sl.r_7 | delta edge_run_last.sl.r_6 | delta edge_run_last.sl.r_5 | delta edge_run_last.sl.r_4 | delta edge_run_last.sl.r_3 | delta edge_run_last.sl.r_2 | delta edge_run_last.sl.r_1 | delta edge_run_last.sl.r)
  rfl

end Cert.Proof.Kern

end
-- ==== Proof.EdgeDat.lean ====
/-
  The edge pass's proof data and its body obligation: the scratch accumulator as a fold over the points.
-/
module

public import proofs.«01_k».proof.Proof.Edge

@[expose] public section

set_option maxRecDepth 16384

noncomputable section

namespace Cert.Proof.Kern

open Cert.KernelIdeal Cert.KernelIdeal.Gen

open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 1) (Elt F) ℕ UU ℕ

/-! ## The pipeline's proof data -/

section Data

variable (c : Dev nD) (V : (b : Ref sig .tc) → Buf (Elt F) ((c.tc : Thread nD τ).loc b)) (O : CellTallies nD τ sig (HIx 1))
  (W : Set (SemLoc sig × HIx 1))

/-- The pass's scratch accumulator. -/
abbrev edgeScratch : Memref sig .tc .vmem S64x256 .f32 := Memref.whole cc2_scratch0

/-- Window `w`'s block at point `t`, of its array as the region finds it. -/
def edgeBlk (w : Fin cfg2.W) (t : Fin cfg2.N) : ((cfg2.win w).xblock (cfg2.grid.coords t)).Idx → Elt F (cfg2.win w).elt :=
  ((cfg2.win w).blk t).view.read (Elt F) (V (Pipeline.arrRef spec2 w))

/-- The grid's points by number. -/
def edgePt (n : ℕ) : Fin cfg2.N := ⟨n % 10, lt_of_lt_of_eq (Nat.mod_lt n (by decide)) (show 10 = cfg2.N from N_2.symm)⟩

theorem edgePt_val (t : Fin cfg2.N) : edgePt t.val = t :=
  Fin.ext (Nat.mod_eq_of_lt (lt_of_lt_of_eq t.isLt (show cfg2.N = 10 from N_2)))

/-- One point's step of the accumulator. -/
def edgeStep (t : Fin cfg2.N) (a : Vec F S64x256 .f32) : Vec F S64x256 .f32 :=
  edgeAcc (edgeBlk c V 0 t) (edgeBlk c V 1 t) (edgeBlk c V 2 t) (edgeBlk c V 3 t) (edgeBlk c V 4 t) (edgeBlk c V 6 t) (edgeBlk c V 7 t) a

/-- The accumulator after the first `n` points. -/
def edgeFold : ℕ → Vec F S64x256 .f32
  | 0 => k2_pay4
  | n + 1 => edgeStep c V (edgePt n) (edgeFold n)

/-- The region invariant before point `n`: before the first every scoped buffer at anything, later the scratch at the fold
    so far, and what gives the scoped buffers back in exchange for it. -/
def edgeInv : ℕ → sProp 𝕄
  | 0 => Pipeline.scopedRest spec2 c
  | n + 1 => iprop(owns (c : Thread nD τ) edgeScratch fullShare (edgeFold c V (n + 1))
      ∗ ((∃ d, owns (c : Thread nD τ) edgeScratch fullShare d) -∗ Pipeline.scopedRest spec2 c))

/-- The scratch and the way back out of the scoped buffers. -/
theorem edge_scratch : (Pipeline.scopedRest spec2 c : sProp 𝕄)
    ⊢ iprop((∃ d, owns (c : Thread nD τ) edgeScratch fullShare d)
      ∗ ((∃ d, owns (c : Thread nD τ) edgeScratch fullShare d) -∗ Pipeline.scopedRest spec2 c)) := by
  rw [scopedRest2_eq]; simp only [edgeScratch, owns_whole]
  iintro ⟨H0, H1, H2, H3, H4, H5, H6, H7, H8, H9, H10, H11, H12, H⟩
  isplitl [H]; · iexact H
  iintro H
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  iexact H

/-- At the end the scoped buffers are back. -/
theorem edgeInv_pos (n : ℕ) (h : n ≠ 0) : edgeInv c V n = iprop(owns (c : Thread nD τ) edgeScratch fullShare (edgeFold c V n)
      ∗ ((∃ d, owns (c : Thread nD τ) edgeScratch fullShare d) -∗ Pipeline.scopedRest spec2 c)) := by
  cases n with
  | zero => exact absurd rfl h
  | succ n => rfl

/-- The edge pass's proof data: the arrays as the region finds them; after the body each input's buffer at its block, the
    two results' buffers at the head of the fold so far (consulted at the last point only); the core's debt a constant. -/
def edgeDat : Dat τ (Elt F) (HIx 1) ℕ UU ℕ cfg2 c where
  A w := V (Pipeline.arrRef spec2 w)
  after w t := match w with
    | ⟨0, _⟩ => edgeBlk c V 0 t
    | ⟨1, _⟩ => edgeBlk c V 1 t
    | ⟨2, _⟩ => edgeBlk c V 2 t
    | ⟨3, _⟩ => edgeBlk c V 3 t
    | ⟨4, _⟩ => edgeBlk c V 4 t
    | ⟨5, _⟩ => edgeBlk c V 5 t
    | ⟨6, _⟩ => edgeBlk c V 6 t
    | ⟨7, _⟩ => edgeBlk c V 7 t
    | ⟨8, _⟩ => edgeBlk c V 8 t
    | ⟨9, _⟩ => edgeBlk c V 9 t
    | ⟨10, _⟩ => edgeBlk c V 10 t
    | ⟨11, _⟩ => edgeBlk c V 11 t
    | ⟨12, _⟩ => k2_pay3 (edgeBlk c V 5 t) (edgeFold c V (t.val + 1)) (edgeBlk c V 8 t) (edgeBlk c V 9 t) (edgeBlk c V 10 t) (edgeBlk c V 11 t)
    | ⟨13, _⟩ => k2_pay2 (edgeBlk c V 5 t) (edgeFold c V (t.val + 1))
  Φ t := edgeInv c V t.val
  q _ := fullShare
  owed _ := O
  recorded _ := W

theorem edgeDat_A (w : Fin cfg2.W) : (edgeDat c V O W).A w = V (Pipeline.arrRef spec2 w) := by dsimp only [edgeDat]

theorem edge_after_0 (t : Fin cfg2.N) : (edgeDat c V O W).after 0 t = edgeBlk c V 0 t := by dsimp only [edgeDat]
theorem edge_after_1 (t : Fin cfg2.N) : (edgeDat c V O W).after 1 t = edgeBlk c V 1 t := by dsimp only [edgeDat]
theorem edge_after_2 (t : Fin cfg2.N) : (edgeDat c V O W).after 2 t = edgeBlk c V 2 t := by dsimp only [edgeDat]
theorem edge_after_3 (t : Fin cfg2.N) : (edgeDat c V O W).after 3 t = edgeBlk c V 3 t := by dsimp only [edgeDat]
theorem edge_after_4 (t : Fin cfg2.N) : (edgeDat c V O W).after 4 t = edgeBlk c V 4 t := by dsimp only [edgeDat]
theorem edge_after_5 (t : Fin cfg2.N) : (edgeDat c V O W).after 5 t = edgeBlk c V 5 t := by dsimp only [edgeDat]
theorem edge_after_6 (t : Fin cfg2.N) : (edgeDat c V O W).after 6 t = edgeBlk c V 6 t := by dsimp only [edgeDat]
theorem edge_after_7 (t : Fin cfg2.N) : (edgeDat c V O W).after 7 t = edgeBlk c V 7 t := by dsimp only [edgeDat]
theorem edge_after_8 (t : Fin cfg2.N) : (edgeDat c V O W).after 8 t = edgeBlk c V 8 t := by dsimp only [edgeDat]
theorem edge_after_9 (t : Fin cfg2.N) : (edgeDat c V O W).after 9 t = edgeBlk c V 9 t := by dsimp only [edgeDat]
theorem edge_after_10 (t : Fin cfg2.N) : (edgeDat c V O W).after 10 t = edgeBlk c V 10 t := by dsimp only [edgeDat]
theorem edge_after_11 (t : Fin cfg2.N) : (edgeDat c V O W).after 11 t = edgeBlk c V 11 t := by dsimp only [edgeDat]
theorem edge_after_12 (t : Fin cfg2.N) : (edgeDat c V O W).after 12 t = k2_pay3 (edgeBlk c V 5 t) (edgeFold c V (t.val + 1)) (edgeBlk c V 8 t) (edgeBlk c V 9 t) (edgeBlk c V 10 t) (edgeBlk c V 11 t) := by dsimp only [edgeDat]
theorem edge_after_13 (t : Fin cfg2.N) : (edgeDat c V O W).after 13 t = k2_pay2 (edgeBlk c V 5 t) (edgeFold c V (t.val + 1)) := by dsimp only [edgeDat]

/-! Every input's buffer holds its block at every point. -/

theorem edge_before_0 (t : Fin cfg2.N) (d) : (edgeDat c V O W).before 0 t d = edgeBlk c V 0 t :=
  ((edgeDat c V O W).before_in_eq_fetched 0 rfl (fun _ => rfl) (fun _ _ _ => rfl) (fun t => by rw [edge_after_0]; unfold Dat.blockOf edgeBlk; rw [edgeDat_A]; try rfl) t d).trans
    (by unfold Dat.fetched Dat.blockOf edgeBlk; rw [edgeDat_A]; try rfl)
theorem edge_before_1 (t : Fin cfg2.N) (d) : (edgeDat c V O W).before 1 t d = edgeBlk c V 1 t :=
  ((edgeDat c V O W).before_in_eq_fetched 1 rfl (fun _ => rfl) (fun _ _ _ => rfl) (fun t => by rw [edge_after_1]; unfold Dat.blockOf edgeBlk; rw [edgeDat_A]; try rfl) t d).trans
    (by unfold Dat.fetched Dat.blockOf edgeBlk; rw [edgeDat_A]; try rfl)
theorem edge_before_2 (t : Fin cfg2.N) (d) : (edgeDat c V O W).before 2 t d = edgeBlk c V 2 t :=
  ((edgeDat c V O W).before_in_eq_fetched 2 rfl (fun _ => rfl) (fun _ _ _ => rfl) (fun t => by rw [edge_after_2]; unfold Dat.blockOf edgeBlk; rw [edgeDat_A]; try rfl) t d).trans
    (by unfold Dat.fetched Dat.blockOf edgeBlk; rw [edgeDat_A]; try rfl)
theorem edge_before_3 (t : Fin cfg2.N) (d) : (edgeDat c V O W).before 3 t d = edgeBlk c V 3 t :=
  ((edgeDat c V O W).before_in_eq_fetched 3 rfl (fun _ => rfl) (fun _ _ _ => rfl) (fun t => by rw [edge_after_3]; unfold Dat.blockOf edgeBlk; rw [edgeDat_A]; try rfl) t d).trans
    (by unfold Dat.fetched Dat.blockOf edgeBlk; rw [edgeDat_A]; try rfl)
theorem edge_before_4 (t : Fin cfg2.N) (d) : (edgeDat c V O W).before 4 t d = edgeBlk c V 4 t :=
  ((edgeDat c V O W).before_in_eq_fetched 4 rfl (fun _ => rfl) (fun _ _ _ => rfl) (fun t => by rw [edge_after_4]; unfold Dat.blockOf edgeBlk; rw [edgeDat_A]; try rfl) t d).trans
    (by unfold Dat.fetched Dat.blockOf edgeBlk; rw [edgeDat_A]; try rfl)
theorem edge_before_5 (t : Fin cfg2.N) (d) : (edgeDat c V O W).before 5 t d = edgeBlk c V 5 t :=
  ((edgeDat c V O W).before_in_eq_fetched 5 rfl (fun _ => rfl) (fun _ _ _ => rfl) (fun t => by rw [edge_after_5]; unfold Dat.blockOf edgeBlk; rw [edgeDat_A]; try rfl) t d).trans
    (by unfold Dat.fetched Dat.blockOf edgeBlk; rw [edgeDat_A]; try rfl)
theorem edge_before_6 (t : Fin cfg2.N) (d) : (edgeDat c V O W).before 6 t d = edgeBlk c V 6 t :=
  ((edgeDat c V O W).before_in_eq_fetched 6 rfl (fun _ => rfl) (fun _ _ _ => rfl) (fun t => by rw [edge_after_6]; unfold Dat.blockOf edgeBlk; rw [edgeDat_A]; try rfl) t d).trans
    (by unfold Dat.fetched Dat.blockOf edgeBlk; rw [edgeDat_A]; try rfl)
theorem edge_before_7 (t : Fin cfg2.N) (d) : (edgeDat c V O W).before 7 t d = edgeBlk c V 7 t :=
  ((edgeDat c V O W).before_in_eq_fetched 7 rfl (fun _ => rfl) (fun _ _ _ => rfl) (fun t => by rw [edge_after_7]; unfold Dat.blockOf edgeBlk; rw [edgeDat_A]; try rfl) t d).trans
    (by unfold Dat.fetched Dat.blockOf edgeBlk; rw [edgeDat_A]; try rfl)
theorem edge_before_8 (t : Fin cfg2.N) (d) : (edgeDat c V O W).before 8 t d = edgeBlk c V 8 t :=
  ((edgeDat c V O W).before_in_eq_fetched 8 rfl (fun _ => rfl) (fun _ _ _ => rfl) (fun t => by rw [edge_after_8]; unfold Dat.blockOf edgeBlk; rw [edgeDat_A]; try rfl) t d).trans
    (by unfold Dat.fetched Dat.blockOf edgeBlk; rw [edgeDat_A]; try rfl)
theorem edge_before_9 (t : Fin cfg2.N) (d) : (edgeDat c V O W).before 9 t d = edgeBlk c V 9 t :=
  ((edgeDat c V O W).before_in_eq_fetched 9 rfl (fun _ => rfl) (fun _ _ _ => rfl) (fun t => by rw [edge_after_9]; unfold Dat.blockOf edgeBlk; rw [edgeDat_A]; try rfl) t d).trans
    (by unfold Dat.fetched Dat.blockOf edgeBlk; rw [edgeDat_A]; try rfl)
theorem edge_before_10 (t : Fin cfg2.N) (d) : (edgeDat c V O W).before 10 t d = edgeBlk c V 10 t :=
  ((edgeDat c V O W).before_in_eq_fetched 10 rfl (fun _ => rfl) (fun _ _ _ => rfl) (fun t => by rw [edge_after_10]; unfold Dat.blockOf edgeBlk; rw [edgeDat_A]; try rfl) t d).trans
    (by unfold Dat.fetched Dat.blockOf edgeBlk; rw [edgeDat_A]; try rfl)
theorem edge_before_11 (t : Fin cfg2.N) (d) : (edgeDat c V O W).before 11 t d = edgeBlk c V 11 t :=
  ((edgeDat c V O W).before_in_eq_fetched 11 rfl (fun _ => rfl) (fun _ _ _ => rfl) (fun t => by rw [edge_after_11]; unfold Dat.blockOf edgeBlk; rw [edgeDat_A]; try rfl) t d).trans
    (by unfold Dat.fetched Dat.blockOf edgeBlk; rw [edgeDat_A]; try rfl)

/-! ## The body obligation -/

/-- What the body is called with at point `t`, window by window, -/
def edgePre (t : Fin cfg2.N) : sProp 𝕄 :=
  iprop((edgeDat c V O W).Φ t.castSucc ∗ (edgeDat c V O W).owesAt none t.castSucc
    ∗ (∃ d, owns (c : Thread nD τ) (st2_0 t) fullShare ((edgeDat c V O W).before 0 t d))
    ∗ (∃ d, owns (c : Thread nD τ) (st2_1 t) fullShare ((edgeDat c V O W).before 1 t d))
    ∗ (∃ d, owns (c : Thread nD τ) (st2_2 t) fullShare ((edgeDat c V O W).before 2 t d))
    ∗ (∃ d, owns (c : Thread nD τ) (st2_3 t) fullShare ((edgeDat c V O W).before 3 t d))
    ∗ (∃ d, owns (c : Thread nD τ) (st2_4 t) fullShare ((edgeDat c V O W).before 4 t d))
    ∗ (∃ d, owns (c : Thread nD τ) (st2_5 t) fullShare ((edgeDat c V O W).before 5 t d))
    ∗ (∃ d, owns (c : Thread nD τ) (st2_6 t) fullShare ((edgeDat c V O W).before 6 t d))
    ∗ (∃ d, owns (c : Thread nD τ) (st2_7 t) fullShare ((edgeDat c V O W).before 7 t d))
    ∗ (∃ d, owns (c : Thread nD τ) (st2_8 t) fullShare ((edgeDat c V O W).before 8 t d))
    ∗ (∃ d, owns (c : Thread nD τ) (st2_9 t) fullShare ((edgeDat c V O W).before 9 t d))
    ∗ (∃ d, owns (c : Thread nD τ) (st2_10 t) fullShare ((edgeDat c V O W).before 10 t d))
    ∗ (∃ d, owns (c : Thread nD τ) (st2_11 t) fullShare ((edgeDat c V O W).before 11 t d))
    ∗ (∃ d, owns (c : Thread nD τ) (st2_12 t) fullShare ((edgeDat c V O W).before 12 t d))
    ∗ (∃ d, owns (c : Thread nD τ) (st2_13 t) fullShare ((edgeDat c V O W).before 13 t d)))

/-- and what it returns. -/
def edgePost (t : Fin cfg2.N) : sProp 𝕄 :=
  iprop((edgeDat c V O W).Φ t.succ ∗ (edgeDat c V O W).owesAt none t.succ
    ∗ (edgeDat c V O W).leavesExact 0 t
    ∗ (edgeDat c V O W).leavesExact 1 t
    ∗ (edgeDat c V O W).leavesExact 2 t
    ∗ (edgeDat c V O W).leavesExact 3 t
    ∗ (edgeDat c V O W).leavesExact 4 t
    ∗ (edgeDat c V O W).leavesExact 5 t
    ∗ (edgeDat c V O W).leavesExact 6 t
    ∗ (edgeDat c V O W).leavesExact 7 t
    ∗ (edgeDat c V O W).leavesExact 8 t
    ∗ (edgeDat c V O W).leavesExact 9 t
    ∗ (edgeDat c V O W).leavesExact 10 t
    ∗ (edgeDat c V O W).leavesExact 11 t
    ∗ (edgeDat c V O W).leavesExact 12 t
    ∗ (edgeDat c V O W).leavesExact 13 t)

/-- A window the body stores into (or reads) leaves its buffer at the data's contents. -/
theorem edge_leaves (w : Fin cfg2.W) (t : Fin cfg2.N) (h : cfg2.idle w (grid2.coords t) = false) :
    (edgeDat c V O W).leavesExact w t = owns (c : Thread nD τ) ((cfg2.win w).stage (cfg2.slots t w)) fullShare ((edgeDat c V O W).after w t) := by
  unfold Dat.leavesExact; rw [h]

theorem edge_idle_12 : ∀ t : Fin cfg2.N, ¬t.val % 10 = 9 → cfg2.idle 12 (grid2.coords t) = true ∧ (cfg2.win 12).flush t = false := by decide +kernel
theorem edge_idle_13 : ∀ t : Fin cfg2.N, ¬t.val % 10 = 9 → cfg2.idle 13 (grid2.coords t) = true ∧ (cfg2.win 13).flush t = false := by decide +kernel
theorem edge_live_12 : ∀ t : Fin cfg2.N, t.val % 10 = 9 → cfg2.idle 12 (grid2.coords t) = false := by decide +kernel
theorem edge_live_13 : ∀ t : Fin cfg2.N, t.val % 10 = 9 → cfg2.idle 13 (grid2.coords t) = false := by decide +kernel

set_option maxHeartbeats 4000000 in
theorem edge_sound (t : Fin cfg2.N) :
    edgePre c V O W t ⊢ wp frame (wpE (defs₀ (F := F)) Variants.none c none) Set.univ (bodyAt2 t) (fun _ => edgePost c V O W t) := by
  unfold edgePre edgePost bodyAt2
  simp only [edge_before_0, edge_before_1, edge_before_2, edge_before_3, edge_before_4, edge_before_5, edge_before_6, edge_before_7, edge_before_8, edge_before_9, edge_before_10, edge_before_11]
  have hN : t.val < 10 := lt_of_lt_of_eq t.isLt (show cfg2.N = 10 from N_2)
  have hfold : edgeFold c V (t.val + 1) = edgeStep c V t (edgeFold c V t.val) := by rw [edgeFold, edgePt_val]
  rw [show (edgeDat c V O W).owesAt none t.succ = (edgeDat c V O W).owesAt none t.castSucc from rfl,
    show (edgeDat c V O W).Φ t.succ = edgeInv c V (t.val + 1) from rfl, show (edgeDat c V O W).Φ t.castSucc = edgeInv c V t.val from rfl,
    edgeInv_pos c V _ (Nat.succ_ne_zero t.val),
    edge_leaves c V O W 0 t rfl, edge_leaves c V O W 1 t rfl, edge_leaves c V O W 2 t rfl, edge_leaves c V O W 3 t rfl, edge_leaves c V O W 4 t rfl, edge_leaves c V O W 5 t rfl, edge_leaves c V O W 6 t rfl, edge_leaves c V O W 7 t rfl, edge_leaves c V O W 8 t rfl, edge_leaves c V O W 9 t rfl, edge_leaves c V O W 10 t rfl, edge_leaves c V O W 11 t rfl,
    edge_after_0, edge_after_1, edge_after_2, edge_after_3, edge_after_4, edge_after_5, edge_after_6, edge_after_7, edge_after_8, edge_after_9, edge_after_10, edge_after_11, hfold]
  by_cases h9 : t.val % 10 = 9
  · have h0 : ¬t.val % 10 = 0 := by omega
    rw [edge_leaves c V O W 12 t (edge_live_12 t h9), edge_leaves c V O W 13 t (edge_live_13 t h9), edge_after_12, edge_after_13, hfold,
      edgeInv_pos c V _ (fun h => h0 (by rw [h]))]
    unfold edgeStep
    iintro ⟨⟨HS, Hb⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
    iapply (edge_run_last c (grid2.coords t) _ _ _ _ _ _ _ _ _ _ _ _ _ _ _ _ _ _ _ _ _ _ _ _ _ _ _ _ edgeScratch (Memref.isWhole_whole _) (fun h => h0 ((edgeFirst_iff t).mp h)) ((edgeLast_iff t).mpr h9) (edgeBlk c V 0 t) (edgeBlk c V 1 t) (edgeBlk c V 2 t) (edgeBlk c V 3 t) (edgeBlk c V 4 t) (edgeBlk c V 5 t) (edgeBlk c V 6 t) (edgeBlk c V 7 t) (edgeBlk c V 8 t) (edgeBlk c V 9 t) (edgeBlk c V 10 t) (edgeBlk c V 11 t) (edgeFold c V t.val) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexists _; iexact H12
    isplitl [H13]; · iexists _; iexact H13
    isplitl [HS]; · iexact HS
    iintro ⟨H0, H1, H2, H3, H4, H5, H6, H7, H8, H9, H10, H11, H12, H13, HS⟩
    isplitl [HS Hb]
    · isplitl [HS]; · iexact HS
      iexact Hb
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    iexact H13
  · rw [Dat.leavesExact_idle (edgeDat c V O W) 12 t (edge_idle_12 t h9).1 (edge_idle_12 t h9).2, Dat.leavesExact_idle (edgeDat c V O W) 13 t (edge_idle_13 t h9).1 (edge_idle_13 t h9).2]
    by_cases h0 : t.val % 10 = 0
    · have hz : t.val = 0 := by omega
      rw [hz, edgeInv, edgeFold]
      unfold edgeStep
      iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
      ihave HΦ2 := (edge_scratch c) $$ HΦ
      icases HΦ2 with ⟨HS, Hb⟩
      iapply (edge_run_first c (grid2.coords t) _ _ _ _ _ _ _ _ _ _ _ _ _ _ _ _ _ _ _ _ _ _ _ _ _ _ _ _ edgeScratch (Memref.isWhole_whole _) ((edgeFirst_iff t).mpr h0) (fun h => h9 ((edgeLast_iff t).mp h)) (edgeBlk c V 0 t) (edgeBlk c V 1 t) (edgeBlk c V 2 t) (edgeBlk c V 3 t) (edgeBlk c V 4 t) (edgeBlk c V 5 t) (edgeBlk c V 6 t) (edgeBlk c V 7 t) (edgeBlk c V 8 t) (edgeBlk c V 9 t) (edgeBlk c V 10 t) (edgeBlk c V 11 t) _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [HS]; · iexact HS
      iintro ⟨H0, H1, H2, H3, H4, H5, H6, H7, H8, H9, H10, H11, H12, H13, HS⟩
      isplitl [HS Hb]
      · isplitl [HS]; · iexact HS
        iexact Hb
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexists _; iexact H12
      iexists _; iexact H13
    · rw [edgeInv_pos c V _ (fun h => h0 (by rw [h]))]
      unfold edgeStep
      iintro ⟨⟨HS, Hb⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
      iapply (edge_run_next c (grid2.coords t) _ _ _ _ _ _ _ _ _ _ _ _ _ _ _ _ _ _ _ _ _ _ _ _ _ _ _ _ edgeScratch (Memref.isWhole_whole _) (fun h => h0 ((edgeFirst_iff t).mp h)) (fun h => h9 ((edgeLast_iff t).mp h)) (edgeBlk c V 0 t) (edgeBlk c V 1 t) (edgeBlk c V 2 t) (edgeBlk c V 3 t) (edgeBlk c V 4 t) (edgeBlk c V 5 t) (edgeBlk c V 6 t) (edgeBlk c V 7 t) (edgeBlk c V 8 t) (edgeBlk c V 9 t) (edgeBlk c V 10 t) (edgeBlk c V 11 t) _ _ (edgeFold c V t.val) Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [HS]; · iexact HS
      iintro ⟨H0, H1, H2, H3, H4, H5, H6, H7, H8, H9, H10, H11, H12, H13, HS⟩
      isplitl [HS Hb]
      · isplitl [HS]; · iexact HS
        iexact Hb
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexists _; iexact H12
      iexists _; iexact H13

/-- The body table's row at a point is the body there. -/
theorem edge_row (t : Fin cfg2.N) : defs₀ (F := F) .tc cfg2.body (cfg2.bodyArgs t (cfg2.slots t)) = bodyAt2 t := by
  rfl

theorem edge_obligation : BodyObligation (edgeDat c V O W) (defs₀ (F := F)) Variants.none none Set.univ := fun t => by
  rw [bigSep_W2, bigSep_W2, edge_row]
  exact triple_restated (edge_sound c V O W t) rfl .rfl fun _ => .rfl

end Data

end Cert.Proof.Kern

end
-- ==== Proof.Gather.lean ====
/-
  The SparseCore call: thirty-two vector subcores, each fetching its five thousand node numbers from a row of the edge
  list, bringing in the rows of the node table they name, and writing them out to its block of five thousand rows — once
  for the edges' first endpoints, once for their second. What each subcore writes is stated as a function of the table
  and of the edge list, and so is what the whole call leaves.
-/
module

public import proofs.«01_k».proof.Proof.EdgeDat
public import Idealize.ShloMosaic.Lib.SparseCore.FromWhole
public import Idealize.ShloMosaic.Lib.ValueIdxCore

@[expose] public section

set_option maxRecDepth 16384

noncomputable section

namespace Cert.Proof.Kern

open Cert.KernelIdeal Cert.KernelIdeal.Gen

open Idealize.ShloMosaic Idealize.ShloMosaic.TcCoe Idealize.ShloMosaic.Tactic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2 eq_ix2)

variable {F : FTy → Type}

local notation "𝕄" => MT nD τ sig (HIx 1) (Elt F) ℕ UU ℕ

/-! ## The buffers -/

abbrev nLoc (d : Dev nD) : Loc nD τ sig := (SparseCore.T d).loc main_v23_0
abbrev eLoc (d : Dev nD) : Loc nD τ sig := (SparseCore.T d).loc main_arg2
abbrev uLoc (d : Dev nD) : Loc nD τ sig := (SparseCore.T d).loc main_v24_0
abbrev vLoc (d : Dev nD) : Loc nD τ sig := (SparseCore.T d).loc main_v24_1

abbrev nV : Memref sig .scVector .hbm S10000x16 .f32 := Memref.whole main_v23_0_scv
abbrev eV : Memref sig .scVector .hbm S2x160000 .i32 := Memref.whole main_arg2_scv
abbrev uV : Memref sig .scVector .hbm S160000x16 .f32 := Memref.whole main_v24_0_scv
abbrev vV : Memref sig .scVector .hbm S160000x16 .f32 := Memref.whole main_v24_1_scv
abbrev lV : Memref sig .scVector .vmem S5000 .i32 := Memref.whole cc1_scratch0
abbrev rV : Memref sig .scVector .vmem S5000x16 .f32 := Memref.whole cc1_scratch1

/-! ## What the call computes -/

/-- The table row a word of the edge list names. -/
def rowAt (w : BitVec 32) : Fin 10000 := ⟨min w.toNat 9999, by omega⟩

/-- Row `j 0` of the result: the table's row named by entry `j 0` of row `r` of the edge list. -/
def gathered (x : S10000x16.Idx → Elt F .f32) (e : S2x160000.Idx → Elt F .i32) (r : Fin 2) : S160000x16.Idx → Elt F .f32 :=
  fun j => x (ix2 (rowAt (e (ix2 r (j 0)))) (j 1))

/-! ## The blocks and the shares -/

theorem udiv : 32 ∣ S160000x16.size 0 := ⟨5000, rfl⟩
abbrev urow (w : Fin 32) : Rect S160000x16 := Rect.part (s := S160000x16) (a₀ := 0) udiv w
abbrev uRowSet (w : Fin 32) : Finset S160000x16.Idx := (urow w).set

theorem pos32 : 0 < 32 := by decide
abbrev shareOf (w : Fin 32) : PosShare TreeShare := pieceOf fullShare 32 pos32 w

variable (X : (d : Dev nD) → Buf (Elt F) (nLoc d)) (E : (d : Dev nD) → Buf (Elt F) (eLoc d))

abbrev nSh (d : Dev nD) (w : Fin 32) : sProp 𝕄 := nLoc d ↦{shareOf w} X d
abbrev eSh (d : Dev nD) (w : Fin 32) : sProp 𝕄 := eLoc d ↦{shareOf w} E d
abbrev uRow (d : Dev nD) (w : Fin 32) (f : Buf (Elt F) (uLoc d)) : sProp 𝕄 := uLoc d ↦[uRowSet w]{fullShare} f
abbrev vRow (d : Dev nD) (w : Fin 32) (f : Buf (Elt F) (vLoc d)) : sProp 𝕄 := vLoc d ↦[uRowSet w]{fullShare} f

/-- What subcore number `w` is handed. -/
abbrev goRes (d : Dev nD) (w : Fin 32) : sProp 𝕄 :=
  iprop(nSh X d w ∗ eSh E d w ∗ (∃ f, uRow d w f) ∗ (∃ f, vRow d w f))
/-- What it hands back. -/
abbrev tdRes (d : Dev nD) (w : Fin 32) : sProp 𝕄 :=
  iprop(nSh X d w ∗ eSh E d w ∗ uRow d w (gathered (X d) (E d) 0) ∗ vRow d w (gathered (X d) (E d) 1))

/-- The number of subcore `i` of SparseCore `c`. -/
def wOf (c : Fin 2) (i : Fin 16) : Fin 32 := ⟨2 * i.val + c.val, by omega⟩

variable [FloatOps F]

/-- What the call's handshakes carry. -/
def P : (K (F := F)).Pay (nD := nD) (Val := Elt F) (Name := ℕ) (U := UU) where
  st := fun q d c => match q with
    | 0 => bigSep Finset.univ fun i : Fin ((K (F := F)).nSub 0) => goRes X E d (wOf c i)
  dn := fun q d c => match q with
    | 0 => bigSep Finset.univ fun i : Fin ((K (F := F)).nSub 0) => tdRes X E d (wOf c i)
  go := fun q d c i => match q with | 0 => goRes X E d (wOf c i)
  td := fun q d c i => match q with | 0 => tdRes X E d (wOf c i)
  x := fun _ _ => iprop(emp)

instance goRes_storable (d : Dev nD) (w : Fin 32) : BI.Storable (upEmb : UEmb _ 𝕄) (goRes X E d w) := inferInstance
instance tdRes_storable (d : Dev nD) (w : Fin 32) : BI.Storable (upEmb : UEmb _ 𝕄) (tdRes X E d w) := inferInstance

instance P_storable : (P (F := F) X E).IsStorable where
  st q d c := match q with
    | 0 => (inferInstance : BI.Storable (upEmb : UEmb _ 𝕄) (bigSep Finset.univ fun i : Fin ((K (F := F)).nSub 0) => goRes X E d (wOf c i)))
  dn q d c := match q with
    | 0 => (inferInstance : BI.Storable (upEmb : UEmb _ 𝕄) (bigSep Finset.univ fun i : Fin ((K (F := F)).nSub 0) => tdRes X E d (wOf c i)))
  go q d c i := match q with
    | 0 => (inferInstance : BI.Storable (upEmb : UEmb _ 𝕄) (goRes X E d (wOf c i)))
  td q d c i := match q with
    | 0 => (inferInstance : BI.Storable (upEmb : UEmb _ 𝕄) (tdRes X E d (wOf c i)))

theorem vecSplit : (K (F := F)).VecSplit' (P X E) 0 := by
  intro d c
  show (bigSep Finset.univ fun i : Fin ((K (F := F)).nSub 0) => goRes X E d (wOf c i)) ⊢ |={Set.univ}=> iprop(
      (bigSep Finset.univ fun i : Fin ((K (F := F)).nSub 0) => goRes X E d (wOf c i))
      ∗ ((bigSep Finset.univ fun i : Fin ((K (F := F)).nSub 0) => tdRes X E d (wOf c i))
          -∗ (bigSep Finset.univ fun i : Fin ((K (F := F)).nSub 0) => tdRes X E d (wOf c i))))
  iintro H; imodintro
  isplitl [H]; · iexact H
  iintro H; iexact H

/-- Every word of the edge list is a row of the table. -/
def PreOK : Prop := ∀ (d : Dev nD) (j : S2x160000.Idx), (E d j).toNat < 10000

/-! ## One subcore -/

section Tile

variable (d : Dev nD) (L : grid1.Coords)

abbrev cV (L : grid1.Coords) : Fin τ.nSC := (L 0).castLE hcore1
abbrev jV (L : grid1.Coords) : Fin τ.nSub := (L 1).castLE hsub1
abbrev wV (L : grid1.Coords) : Fin 32 := wOf (L 0) (L 1)

abbrev eRow1 (L : grid1.Coords) : Memref sig .scVector .hbm S5000 .i32 :=
  ((eV).slice (Rect.unit (s := S2x160000) (k1_off1 L) S1x5000.size (k1_off1_inb L)) (fun _ => rfl)).squeeze S5000 squeezes_S1x5000_S5000
abbrev eRow2 (L : grid1.Coords) : Memref sig .scVector .hbm S5000 .i32 :=
  ((eV).slice (Rect.unit (s := S2x160000) (k1_off3 L) S1x5000.size (k1_off3_inb L)) (fun _ => rfl)).squeeze S5000 squeezes_S1x5000_S5000

abbrev oRect (L : grid1.Coords) : Rect S160000x16 := Rect.unit (s := S160000x16) (k1_off2 L) S5000x16.size (k1_off2_inb L)
abbrev uRowK (L : grid1.Coords) : Memref sig .scVector .hbm S5000x16 .f32 := (uV).slice (oRect L) (fun _ => rfl)
abbrev vRowK (L : grid1.Coords) : Memref sig .scVector .hbm S5000x16 .f32 := (vV).slice (oRect L) (fun _ => rfl)
abbrev nAllK : Memref sig .scVector .hbm S10000x16 .f32 :=
  (nV).slice (Rect.unit (s := S10000x16) ![0, 0] S10000x16.size inb_S10000x16_S10000x16_0_0) (fun _ => rfl)

omit [FloatOps F] in
theorem oRect_eq : oRect L = urow (wV L) := by
  unfold oRect urow Rect.part Rect.block
  congr 1 <;> funext a
  · rw [k1_off2_eq]
    match a with
    | 0 => simp [Shape.partIx, Shape.partSize, wV, wOf]; omega
    | 1 => simp [Shape.partIx, Shape.partSize]
  · match a with
    | 0 => simp [Shape.partSize]
    | 1 => simp [Shape.partSize]

omit [FloatOps F] in
theorem set_uRowK : (uRowK L).view.set = uRowSet (wV L) := by
  show ((View.whole (main_v24_0_scv : Ref sig .scVector)).slice (oRect L)).set = _
  rw [View.set_slice, oRect_eq]; exact Finset.map_refl
omit [FloatOps F] in
theorem set_vRowK : (vRowK L).view.set = uRowSet (wV L) := by
  show ((View.whole (main_v24_1_scv : Ref sig .scVector)).slice (oRect L)).set = _
  rw [View.set_slice, oRect_eq]; exact Finset.map_refl

/-! ### The subcore's own cells and buffers -/

abbrev cell (s : DmaSems sig S_) (d : Dev nD) (c : Fin τ.nSC) (i : Fin τ.nSub) : GSem nD τ sig := (V d c i, .dma s.sem)

omit [FloatOps F] in
theorem cell_ne {s t : DmaSems sig S_} (h : (SemLoc.dma s.sem : SemLoc sig) ≠ .dma t.sem) (c : Fin τ.nSC) (i : Fin τ.nSub) : cell s d c i ≠ cell t d c i :=
  fun e => h (Prod.ext_iff.mp e).2

omit [FloatOps F] in
theorem ownSems0_V (c : Fin τ.nSC) (i : Fin τ.nSub) :
    (ownSems0 (V d c i) : sProp 𝕄)
      = iprop(semVal (cell cc1_scratch2 d c i) 0 ∗ semVal (cell cc1_scoped0 d c i) 0 ∗ semVal (cell cc1_scoped1 d c i) 0
          ∗ semVal (cell cc1_scoped2 d c i) 0 ∗ semVal (cell cc1_scoped3 d c i) 0
          ∗ bigSep ((((((ownCells (V d c i)).erase (cell cc1_scratch2 d c i)).erase (cell cc1_scoped0 d c i)).erase (cell cc1_scoped1 d c i)).erase
              (cell cc1_scoped2 d c i)).erase (cell cc1_scoped3 d c i)) fun g => semVal g 0) := by
  have own : ∀ s : DmaSems sig S_, (SemLoc.dma s.sem : SemLoc sig).isScoped .scVector = true → cell s d c i ∈ ownCells (V d c i) :=
    fun s h => mem_ownCells.mpr ⟨rfl, h⟩
  unfold SparseCore.Cfg.ownSems0
  rw [SparseCore.bigSep_erase' (own cc1_scratch2 (by decide)),
    SparseCore.bigSep_erase' (Finset.mem_erase.mpr ⟨cell_ne d (by decide) c i, own cc1_scoped0 (by decide)⟩),
    SparseCore.bigSep_erase' (Finset.mem_erase.mpr ⟨cell_ne d (by decide) c i, Finset.mem_erase.mpr ⟨cell_ne d (by decide) c i, own cc1_scoped1 (by decide)⟩⟩),
    SparseCore.bigSep_erase' (Finset.mem_erase.mpr ⟨cell_ne d (by decide) c i, Finset.mem_erase.mpr ⟨cell_ne d (by decide) c i,
      Finset.mem_erase.mpr ⟨cell_ne d (by decide) c i, own cc1_scoped2 (by decide)⟩⟩⟩),
    SparseCore.bigSep_erase' (Finset.mem_erase.mpr ⟨cell_ne d (by decide) c i, Finset.mem_erase.mpr ⟨cell_ne d (by decide) c i,
      Finset.mem_erase.mpr ⟨cell_ne d (by decide) c i, Finset.mem_erase.mpr ⟨cell_ne d (by decide) c i, own cc1_scoped3 (by decide)⟩⟩⟩⟩)]

omit [FloatOps F] in
theorem ownBufs_V (c : Fin τ.nSC) (i : Fin τ.nSub) :
    (ownBufs (V d c i) : sProp 𝕄)
      = iprop((∃ f, (V d c i).loc cc1_scratch0 ↦{fullShare} f) ∗ (∃ f, (V d c i).loc cc1_scratch1 ↦{fullShare} f)
          ∗ bigSep (((ownRefs (τ := τ) (.scVector c i)).erase ((Proc.scVector c i).devRef cc1_scratch0)).erase ((Proc.scVector c i).devRef cc1_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector c i) (b := (Proc.scVector c i).devRef cc1_scratch0) rfl)).trans ?_
  rw [SparseCore.bigSep_erase' (Finset.mem_erase.mpr ⟨fun e => absurd (Proc.devRef_injective _ e) (show (cc1_scratch1 : Ref sig .scVector) ≠ cc1_scratch0 by decide),
    SparseCore.Cfg.mem_ownRefs_of_owner (p := Proc.scVector c i) (b := (Proc.scVector c i).devRef cc1_scratch1) rfl⟩)]

/-! ### The values -/

omit [FloatOps F] in
theorem rows_pos : 0 < S5000x16.numel :=
  Finset.prod_pos fun a _ => match a with | 0 => Nat.succ_pos 4999 | 1 => Nat.succ_pos 15

/-- The edge whose endpoint the subcore's `k`th word is. -/
def atEdge (L : grid1.Coords) (k : Fin 5000) : Fin 160000 := ⟨10000 * (L 1).val + 5000 * (L 0).val + k.val, by
  have h1 : (L 1).val < 16 := (L 1).isLt
  have h0 : (L 0).val < 2 := (L 0).isLt
  have hk := k.isLt
  omega⟩

omit [FloatOps F] in
theorem eRow1_read (e : S2x160000.Idx → Elt F .i32) (x : S5000.Idx) :
    (eRow1 L).view.read (Elt F) e x = e (ix2 0 (atEdge L (x 0))) := by
  refine ((View.read_apply (v := (eRow1 L).view) e x).trans (cast_eq _ _)).trans (congrArg e ?_)
  have h := Shape.reshapeEquiv_cons_one (n := 1) (d := ![5000]) squeezes_S1x5000_S5000.numel_eq x
  show (Rect.unit (s := S2x160000) (k1_off1 L) S1x5000.size (k1_off1_inb L)).emb (Shape.reshapeEquiv squeezes_S1x5000_S5000.numel_eq x) = _
  refine (congrArg _ h).trans ?_
  funext a; apply Fin.ext
  match a with
  | 0 => show k1_off1 L 0 + 1 * 0 = 0; rw [k1_off1_eq]; rfl
  | 1 => show k1_off1 L 1 + 1 * (x 0).val = 10000 * (L 1).val + 5000 * (L 0).val + (x 0).val; rw [k1_off1_eq, one_mul]; rfl

omit [FloatOps F] in
theorem eRow2_read (e : S2x160000.Idx → Elt F .i32) (x : S5000.Idx) :
    (eRow2 L).view.read (Elt F) e x = e (ix2 1 (atEdge L (x 0))) := by
  refine ((View.read_apply (v := (eRow2 L).view) e x).trans (cast_eq _ _)).trans (congrArg e ?_)
  have h := Shape.reshapeEquiv_cons_one (n := 1) (d := ![5000]) squeezes_S1x5000_S5000.numel_eq x
  show (Rect.unit (s := S2x160000) (k1_off3 L) S1x5000.size (k1_off3_inb L)).emb (Shape.reshapeEquiv squeezes_S1x5000_S5000.numel_eq x) = _
  refine (congrArg _ h).trans ?_
  funext a; apply Fin.ext
  match a with
  | 0 => show k1_off3 L 0 + 1 * 0 = 1; rw [k1_off3_eq]; rfl
  | 1 => show k1_off3 L 1 + 1 * (x 0).val = 10000 * (L 1).val + 5000 * (L 0).val + (x 0).val; rw [k1_off3_eq, one_mul]; rfl

omit [FloatOps F] in
theorem nAllK_read (x : S10000x16.Idx → Elt F .f32) : (nAllK).view.read (Elt F) x = x := by
  funext j
  refine ((View.read_apply (v := (nAllK).view) x j).trans (cast_eq _ _)).trans (congrArg x ?_)
  show (Rect.unit (s := S10000x16) ![0, 0] S10000x16.size inb_S10000x16_S10000x16_0_0).emb j = j
  funext a; apply Fin.ext
  match a with
  | 0 => show 0 + 1 * (j 0).val = (j 0).val; omega
  | 1 => show 0 + 1 * (j 1).val = (j 1).val; omega

omit [FloatOps F] in
/-- What the gather of the fetched list brings in. -/
theorem payload (x : S10000x16.Idx → Elt F .f32) (e : S2x160000.Idx → Elt F .i32) (r : Fin 2) (l : S5000.Idx → Elt F .i32)
    (hl : ∀ k, l k = e (ix2 r (atEdge L (k 0)))) (hn : S5000.numel = S5000x16.size gathers_S10000x16_S5000x16.axis')
    (hin : ∀ k, (l k).toNat < S10000x16.size gathers_S10000x16_S5000x16.axis) (y : S5000x16.Idx) :
    SparseCore.gatherPayload gathers_S10000x16_S5000x16 x (SparseCore.rows l hn hin) y = gathered x e r (ix2 (atEdge L (y 0)) (y 1)) := by
  unfold SparseCore.gatherPayload gathered
  refine congrArg x ?_
  funext a; apply Fin.ext
  match a with
  | 0 =>
    have h := congrArg Fin.val (Shape.Gathers.idx_axis gathers_S10000x16_S5000x16 (SparseCore.rows l hn hin) y)
    refine h.trans ?_
    have hk : S5000.rowMajor.symm ((y gathers_S10000x16_S5000x16.axis').cast hn.symm) = (fun | 0 => y 0 : S5000.Idx) :=
      (S5000.rowMajor.symm_apply_eq).2 (Fin.ext (by rw [Shape.rowMajor_val_one]; rfl))
    show (l (S5000.rowMajor.symm ((y gathers_S10000x16_S5000x16.axis').cast hn.symm))).toNat = min (e (ix2 r (atEdge L (y 0)))).toNat 9999
    have hb : (l (S5000.rowMajor.symm ((y gathers_S10000x16_S5000x16.axis').cast hn.symm))).toNat < 10000 := hin _
    rw [hk, hl] at hb ⊢
    have hb' : (e (ix2 r (atEdge L (y 0)))).toNat < 10000 := hb
    show (e (ix2 r (atEdge L (y 0)))).toNat = _
    omega
  | 1 => exact Shape.Gathers.idx_of_ne gathers_S10000x16_S5000x16 (SparseCore.rows l hn hin) y 1 (by decide)

omit [FloatOps F] in
/-- A block filled with the rows of its edges holds the result there. -/
theorem u_filled (f : Buf (Elt F) (uLoc d)) (g : S160000x16.Idx → Elt F .f32) (p : S5000x16.Idx → Elt F .f32)
    (hp : ∀ y, p y = g (ix2 (atEdge L (y 0)) (y 1))) :
    ∀ i ∈ (uRowK L).view.set, (uRowK L).view.writes (Elt F) f [⟨Rect.whole S5000x16, p⟩] i = g i := by
  intro i hi
  obtain ⟨y, -, rfl⟩ := Finset.mem_map.mp hi
  have h := congrFun (View.read_writes_whole (uRowK L).view f p) y
  refine (((View.read_apply (v := (uRowK L).view) _ y).trans (cast_eq _ _)).symm.trans h).trans ((hp y).trans (congrArg g ?_))
  show _ = (oRect L).emb y
  funext a; apply Fin.ext
  match a with
  | 0 => show 10000 * (L 1).val + 5000 * (L 0).val + (y 0).val = k1_off2 L 0 + 1 * (y 0).val; rw [k1_off2_eq, one_mul]; rfl
  | 1 => show (y 1).val = k1_off2 L 1 + 1 * (y 1).val; rw [k1_off2_eq, one_mul]; exact (Nat.zero_add _).symm

omit [FloatOps F] in
theorem v_filled (f : Buf (Elt F) (vLoc d)) (g : S160000x16.Idx → Elt F .f32) (p : S5000x16.Idx → Elt F .f32)
    (hp : ∀ y, p y = g (ix2 (atEdge L (y 0)) (y 1))) :
    ∀ i ∈ (vRowK L).view.set, (vRowK L).view.writes (Elt F) f [⟨Rect.whole S5000x16, p⟩] i = g i := by
  intro i hi
  obtain ⟨y, -, rfl⟩ := Finset.mem_map.mp hi
  have h := congrFun (View.read_writes_whole (vRowK L).view f p) y
  refine (((View.read_apply (v := (vRowK L).view) _ y).trans (cast_eq _ _)).symm.trans h).trans ((hp y).trans (congrArg g ?_))
  show _ = (oRect L).emb y
  funext a; apply Fin.ext
  match a with
  | 0 => show 10000 * (L 1).val + 5000 * (L 0).val + (y 0).val = k1_off2 L 0 + 1 * (y 0).val; rw [k1_off2_eq, one_mul]; rfl
  | 1 => show (y 1).val = k1_off2 L 1 + 1 * (y 1).val; rw [k1_off2_eq, one_mul]; exact (Nat.zero_add _).symm

omit [FloatOps F] in
theorem inb1 (hpre : PreOK E) (f : Buf (Elt F) ((V d (cV L) (jV L)).loc cc1_scratch0)) :
    ∀ x, ((lV).view.read (Elt F) (View.write (Elt F) (lV).view f ((eRow1 L).view.read (Elt F) (E d)) Finset.univ) x).toNat
      < S10000x16.size gathers_S10000x16_S5000x16.axis := by
  intro x
  rw [View.write_whole_univ]
  simp only [Memref.view_whole, View.read_whole]
  rw [eRow1_read]
  have h := hpre d (ix2 0 (atEdge L (x 0)))
  exact h

omit [FloatOps F] in
theorem inb2 (hpre : PreOK E) (f : Buf (Elt F) ((V d (cV L) (jV L)).loc cc1_scratch0)) :
    ∀ x, ((lV).view.read (Elt F) (View.write (Elt F) (lV).view f ((eRow2 L).view.read (Elt F) (E d)) Finset.univ) x).toNat
      < S10000x16.size gathers_S10000x16_S5000x16.axis := by
  intro x
  rw [View.write_whole_univ]
  simp only [Memref.view_whole, View.read_whole]
  rw [eRow2_read]
  have h := hpre d (ix2 1 (atEdge L (x 0)))
  exact h

omit [FloatOps F] in
/-- The row buffer once the gather of the first list has landed, as the write-out reads it. -/
theorem landed1 (hpre : PreOK E) (fl : Buf (Elt F) ((V d (cV L) (jV L)).loc cc1_scratch0)) (fr : Buf (Elt F) ((V d (cV L) (jV L)).loc cc1_scratch1))
    (hn : S5000.numel = S5000x16.size gathers_S10000x16_S5000x16.axis') (y : S5000x16.Idx) :
    (rV).view.read (Elt F) (View.write (Elt F) (rV).view fr (SparseCore.gatherPayload gathers_S10000x16_S5000x16 ((nAllK).view.read (Elt F) (X d))
      (SparseCore.rows ((lV).view.read (Elt F) (View.write (Elt F) (lV).view fl ((eRow1 L).view.read (Elt F) (E d)) Finset.univ)) hn (inb1 E d L hpre fl))) Finset.univ) y
      = gathered (X d) (E d) 0 (ix2 (atEdge L (y 0)) (y 1)) := by
  refine (congrFun (congrArg ((rV).view.read (Elt F)) (View.write_whole_univ _ _ _)) y).trans ?_
  rw [nAllK_read]
  refine payload L (X d) (E d) 0 _ (fun k => ?_) hn _ y
  rw [View.write_whole_univ]
  exact eRow1_read L (E d) k

omit [FloatOps F] in
theorem landed2 (hpre : PreOK E) (fl : Buf (Elt F) ((V d (cV L) (jV L)).loc cc1_scratch0)) (fr : Buf (Elt F) ((V d (cV L) (jV L)).loc cc1_scratch1))
    (hn : S5000.numel = S5000x16.size gathers_S10000x16_S5000x16.axis') (y : S5000x16.Idx) :
    (rV).view.read (Elt F) (View.write (Elt F) (rV).view fr (SparseCore.gatherPayload gathers_S10000x16_S5000x16 ((nAllK).view.read (Elt F) (X d))
      (SparseCore.rows ((lV).view.read (Elt F) (View.write (Elt F) (lV).view fl ((eRow2 L).view.read (Elt F) (E d)) Finset.univ)) hn (inb2 E d L hpre fl))) Finset.univ) y
      = gathered (X d) (E d) 1 (ix2 (atEdge L (y 0)) (y 1)) := by
  refine (congrFun (congrArg ((rV).view.read (Elt F)) (View.write_whole_univ _ _ _)) y).trans ?_
  rw [nAllK_read]
  refine payload L (X d) (E d) 1 _ (fun k => ?_) hn _ y
  rw [View.write_whole_univ]
  exact eRow2_read L (E d) k

set_option maxHeartbeats 4000000 in
/-- The subcore's whole task. -/
theorem tile_body (hF : (K (F := F)).Facts) (hpre : PreOK E) (O : CellTallies nD τ sig (HIx 1)) (W : Waits sig (HIx 1)) (hO : ∀ g, O g none = 0) :
    iprop(levAts (K (F := F)).L (K (F := F)).lev ∗ emp ∗ goRes X E d (wV L)
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc1_k L nV (Memref.isWhole_whole _) eV (Memref.isWhole_whole _) uV (Memref.isWhole_whole _) vV (Memref.isWhole_whole _)
            lV (Memref.isWhole_whole _) rV (Memref.isWhole_whole _) cc1_scratch2 cc1_scoped0 cc1_scoped1 cc1_scoped2 cc1_scoped3)
          fun _ => iprop(tdRes X E d (wV L) ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc1_k_eq_skeleton]; unfold cc1_k_skel
  simp only [k1_part1_eq_skeleton]
  rw [(K (F := F)).scopedBufs_V hF d (cV L) (jV L), SparseCore.Cfg.scopedSems0_V (Val := Elt F) d (cV L) (jV L), ownSems0_V, ownBufs_V]
  iintro ⟨#Hlv, -, ⟨Hn, He, ⟨%fu, Hu⟩, ⟨%fv, Hv⟩⟩, ⟨⟨%fl, Hl⟩, ⟨%fr, Hr⟩, Hbufs⟩, ⟨HsG, Hs0, Hs1, Hs2, Hs3, Hsems⟩, HO⟩
  ihave Hmw := (show levAts (K (F := F)).L (K (F := F)).lev ⊢ Transfers.MayWaits (V d (cV L) (jV L)) (default : HIx 1) O from
    (K (F := F)).mayWaits_none (thr := V d (cV L) (jV L)) hO) $$ Hlv
  ihave He := (Entails.of_eq (show (eSh E d (wV L) : sProp 𝕄) = (eV).view.loc (V d (cV L) (jV L)) ↦{shareOf (wV L)} E d from rfl)) $$ He
  ihave Hn := (Entails.of_eq (show (nSh X d (wV L) : sProp 𝕄) = (nAllK).view.loc (V d (cV L) (jV L)) ↦{shareOf (wV L)} X d from rfl)) $$ Hn
  ihave Hu := (Entails.of_eq (show (uRow d (wV L) fu : sProp 𝕄) = (uRowK L).view.loc (V d (cV L) (jV L)) ↦[(uRowK L).view.set]{fullShare} fu by rw [set_uRowK])) $$ Hu
  ihave Hv := (Entails.of_eq (show (vRow d (wV L) fv : sProp 𝕄) = (vRowK L).view.loc (V d (cV L) (jV L)) ↦[(vRowK L).view.set]{fullShare} fv by rw [set_vRowK])) $$ Hv
  ihave Hl := (Entails.of_eq (show ((V d (cV L) (jV L)).loc cc1_scratch0 ↦{fullShare} fl : sProp 𝕄) = (lV).view.loc (V d (cV L) (jV L)) ↦{fullShare} fl from rfl)) $$ Hl
  ihave Hr := (Entails.of_eq (show ((V d (cV L) (jV L)).loc cc1_scratch1 ↦{fullShare} fr : sProp 𝕄) = (rV).view.loc (V d (cV L) (jV L)) ↦{fullShare} fr from rfl)) $$ Hr
  sl_exec
  have hN : ∀ h : S10000x16.Gathers 0 S5000x16, ∑ j, ((rV).slice (S5000x16.rowRect h.axis' j) (S5000x16.stride_rowRect h.axis' j)).view.dmaCredit
      = (rV).view.dmaCredit := fun h => SparseCore.sum_rowCredit_eq_dmaCredit rV h.axis' (fun _ => rfl)
  iapply (SparseCore.wp_gatherFromWhole countersEmb 𝒱₀ (V d (cV L) (jV L)) none (hg := gathers_S10000x16_S5000x16) (default : HIx 1)
      (rV).view.dmaCredit (hN _) rows_pos (inb1 E d L hpre fl)) $$ [Hn Hr Hl HsG]
  · isplitl [Hn]; · iexact Hn
    isplitl [Hr]; · iexact Hr
    isplitl [Hl]; · iexact Hl
    iexact HsG
  iintro Hfl
  sl_exec
  iapply (Transfers.wp_waitLocalO countersEmb 𝒱₀ (V d (cV L) (jV L)) none (default : HIx 1) (rfl : (rV).view.dmaCredit = _)) $$ [Hfl HO]
  · isplitl [Hfl]; · iexact Hfl
    isplitl [HO]; · iexact HO
    iapply (Transfers.MayWaits.elim (SemLoc.dma cc1_scratch2.sem)) $$ Hmw
  iintro ⟨⟨Hr, Hn, Hl⟩, HsG, HO⟩
  sl_exec
  iapply (SparseCore.wp_gatherFromWhole countersEmb 𝒱₀ (V d (cV L) (jV L)) none (hg := gathers_S10000x16_S5000x16) (default : HIx 1)
      (rV).view.dmaCredit (hN _) rows_pos (inb2 E d L hpre _)) $$ [Hn Hr Hl HsG]
  · isplitl [Hn]; · iexact Hn
    isplitl [Hr]; · iexact Hr
    isplitl [Hl]; · iexact Hl
    iexact HsG
  iintro Hfl
  sl_exec
  iapply (Transfers.wp_waitLocalO countersEmb 𝒱₀ (V d (cV L) (jV L)) none (default : HIx 1) (rfl : (rV).view.dmaCredit = _)) $$ [Hfl HO]
  · isplitl [Hfl]; · iexact Hfl
    isplitl [HO]; · iexact HO
    iapply (Transfers.MayWaits.elim (SemLoc.dma cc1_scratch2.sem)) $$ Hmw
  iintro ⟨⟨Hr, Hn, Hl⟩, HsG, HO⟩
  sl_exec
  sl_step
  ihave Hu := (Entails.of_eq ((pointsTo_congr (q := fullShare) (u_filled d L fu (gathered (X d) (E d) 0) _ (landed1 X E d L hpre fl fr _))).trans
    (show _ = (uRow d (wV L) (gathered (X d) (E d) 0) : sProp 𝕄) by rw [set_uRowK]))) $$ Hu
  ihave Hv := (Entails.of_eq ((pointsTo_congr (q := fullShare) (v_filled d L fv (gathered (X d) (E d) 1) _ (landed2 X E d L hpre _ _ _))).trans
    (show _ = (vRow d (wV L) (gathered (X d) (E d) 1) : sProp 𝕄) by rw [set_vRowK]))) $$ Hv
  isplitl [Hn He Hu Hv]
  · isplitl [Hn]; · iexact Hn
    isplitl [He]; · iexact He
    isplitl [Hu]; · iexact Hu
    iexact Hv
  isplitl [Hl Hr Hbufs]
  · isplitl [Hl]; · iexists _; iexact Hl
    isplitl [Hr]; · iexists _; iexact Hr
    iexact Hbufs
  isplitl [HsG Hs0 Hs1 Hs2 Hs3 Hsems]
  · isplitl [HsG]; · iexact HsG
    isplitl [Hs0]; · iexact Hs0
    isplitl [Hs1]; · iexact Hs1
    isplitl [Hs2]; · iexact Hs2
    isplitl [Hs3]; · iexact Hs3
    iexact Hsems
  iexists _; isplitr
  swap; · iexact HO
  ipureintro; intro p hp
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  exact .inl hp

/-! ### The obligation -/

def coordsV (c : Fin (grid1.bound 0)) (s : Fin (grid1.bound 1)) : grid1.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 1 ()
      = SparseCore.onTile hcore1 hsub1 (fun c s => cc1_k (coordsV c s)
          nV (Memref.isWhole_whole _) eV (Memref.isWhole_whole _) uV (Memref.isWhole_whole _) vV (Memref.isWhole_whole _)
          lV (Memref.isWhole_whole _) rV (Memref.isWhole_whole _) cc1_scratch2 cc1_scoped0 cc1_scoped1 cc1_scoped2 cc1_scoped3) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  iframe HA HB HC
  iexists W'; isplitr
  · ipureintro; exact fun p hp => (hW' p hp).imp_right Or.inl
  · iexact HO

theorem tileObl (hF : (K (F := F)).Facts) (hpre : PreOK E) : (K (F := F)).TileObl (D (F := F)) 𝒱 (P X E) v₀ 0 := by
  intro d c i O W hO _ _
  simp only [show (P X E).ox = fun _ _ => 0 from rfl, add_zero]
  have hci : ((K (F := F)).core 0 c).val < grid1.bound 0 ∧ ((K (F := F)).sub 0 i).val < grid1.bound 1 := ⟨c.isLt, i.isLt⟩
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body X E d (coordsV ⟨_, hci.1⟩ ⟨_, hci.2⟩) hF hpre O W hO).trans (wp_mono frame _ _ fun _ => obl_post)

end Tile

/-! ## The whole buffers are the subcores' parts -/

theorem uRows_disjoint : ∀ i ∈ (Finset.univ : Finset (Fin 32)), ∀ j ∈ (Finset.univ : Finset (Fin 32)), i ≠ j → Disjoint (uRowSet i) (uRowSet j) :=
  fun _ _ _ _ h => Rect.part_disjoint udiv h
theorem uRows_cover : (Finset.univ : Finset (Fin 32)).biUnion uRowSet = Finset.univ := Rect.biUnion_part udiv

omit [FloatOps F] in
theorem u_rows (d : Dev nD) (f : Buf (Elt F) (uLoc d)) :
    (uLoc d ↦{fullShare} f : sProp 𝕄) = bigSep Finset.univ fun w : Fin 32 => uRow d w f := by
  unfold uRow
  rw [← pointsTo_biUnion Finset.univ (ℓ := uLoc d) uRowSet uRows_disjoint, uRows_cover]
omit [FloatOps F] in
theorem v_rows (d : Dev nD) (f : Buf (Elt F) (vLoc d)) :
    (vLoc d ↦{fullShare} f : sProp 𝕄) = bigSep Finset.univ fun w : Fin 32 => vRow d w f := by
  unfold vRow
  rw [← pointsTo_biUnion Finset.univ (ℓ := vLoc d) uRowSet uRows_disjoint, uRows_cover]

/-- Every number below thirty-two is that of one subcore of one SparseCore. -/
def wEquiv : Fin 2 × Fin 16 ≃ Fin 32 where
  toFun p := wOf p.1 p.2
  invFun w := (⟨w.val % 2, by omega⟩, ⟨w.val / 2, by omega⟩)
  left_inv p := by
    rcases p with ⟨c, i⟩
    refine Prod.ext (Fin.ext ?_) (Fin.ext ?_) <;> simp only [wOf] <;> omega
  right_inv w := Fin.ext (by simp only [wOf]; omega)

omit [FloatOps F] in
theorem bigSep_subcores (Φ : Fin 32 → sProp 𝕄) :
    (bigSep Finset.univ Φ) = bigSep Finset.univ fun c : Fin 2 => bigSep Finset.univ fun i : Fin 16 => Φ (wOf c i) := by
  rw [bigSep_univ_equiv wEquiv Φ, bigSep_univ_prod]; rfl

/-- The call's operands, whole, are what it is handed; -/
theorem st_of_whole (d : Dev nD) :
    iprop((nLoc d ↦{fullShare} X d) ∗ (eLoc d ↦{fullShare} E d) ∗ (∃ f, uLoc d ↦{fullShare} f) ∗ (∃ f, vLoc d ↦{fullShare} f))
      ⊢ (bigSep Finset.univ fun c : Fin ((K (F := F)).nCore 0) => (P X E).st 0 d c : sProp 𝕄) := by
  show _ ⊢ bigSep Finset.univ fun c : Fin 2 => bigSep Finset.univ fun i : Fin 16 => goRes X E d (wOf c i)
  rw [← bigSep_subcores (goRes X E d)]
  unfold goRes
  rw [bigSep_sep', bigSep_sep', bigSep_sep']
  iintro ⟨Hn, He, ⟨%fu, Hu⟩, ⟨%fv, Hv⟩⟩
  have hu : ∀ w, uRow d w fu ⊢ (iprop(∃ f, uRow d w f) : sProp 𝕄) := fun w => by iintro H; iexists fu; iexact H
  have hv : ∀ w, vRow d w fv ⊢ (iprop(∃ f, vRow d w f) : sProp 𝕄) := fun w => by iintro H; iexists fv; iexact H
  isplitl [Hn]; · iapply (Entails.of_eq (pointsTo_piecesOf Finset.univ (X d) pos32 fullShare)) $$ Hn
  isplitl [He]; · iapply (Entails.of_eq (pointsTo_piecesOf Finset.univ (E d) pos32 fullShare)) $$ He
  isplitl [Hu]
  · iapply (show (bigSep Finset.univ fun w : Fin 32 => uRow d w fu) ⊢ (bigSep Finset.univ fun w : Fin 32 => iprop(∃ f, uRow d w f) : sProp 𝕄) from
      bigSep_mono fun w _ => hu w)
    iapply (Entails.of_eq (u_rows d fu)) $$ Hu
  · iapply (show (bigSep Finset.univ fun w : Fin 32 => vRow d w fv) ⊢ (bigSep Finset.univ fun w : Fin 32 => iprop(∃ f, vRow d w f) : sProp 𝕄) from
      bigSep_mono fun w _ => hv w)
    iapply (Entails.of_eq (v_rows d fv)) $$ Hv

/-- and what it hands back is its operands whole, the two results filled. -/
theorem whole_of_dn (d : Dev nD) :
    (bigSep Finset.univ fun c : Fin ((K (F := F)).nCore 0) => (P X E).dn 0 d c : sProp 𝕄)
      ⊢ iprop((nLoc d ↦{fullShare} X d) ∗ (eLoc d ↦{fullShare} E d) ∗ (uLoc d ↦{fullShare} gathered (X d) (E d) 0)
          ∗ (vLoc d ↦{fullShare} gathered (X d) (E d) 1)) := by
  show (bigSep Finset.univ fun c : Fin 2 => bigSep Finset.univ fun i : Fin 16 => tdRes X E d (wOf c i)) ⊢ _
  rw [← bigSep_subcores (tdRes X E d)]
  unfold tdRes
  rw [bigSep_sep', bigSep_sep', bigSep_sep']
  iintro ⟨Hn, He, Hu, Hv⟩
  isplitl [Hn]; · iapply (Entails.of_eq (pointsTo_piecesOf Finset.univ (X d) pos32 fullShare).symm); iexact Hn
  isplitl [He]; · iapply (Entails.of_eq (pointsTo_piecesOf Finset.univ (E d) pos32 fullShare).symm); iexact He
  isplitl [Hu]; · iapply (Entails.of_eq (u_rows d _).symm); iexact Hu
  iapply (Entails.of_eq (v_rows d _).symm); iexact Hv

end Cert.Proof.Kern

end
-- ==== Proof.Regions.lean ====
/-
  What every buffer holds at each stage of `main`, and its two kernel regions as segments around those contents.
-/
module

public import proofs.«01_k».proof.Proof.Gather
public import Idealize.ShloMosaic.Lib.Pipeline.RegionsLoop

@[expose] public section

set_option maxRecDepth 16384

noncomputable section

namespace Cert.Proof.Kern

open Cert.KernelIdeal Cert.KernelIdeal.Gen

open Idealize.ShloMosaic Idealize.ShloMosaic.TcCoe Idealize.ShloMosaic.Tactic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx (ix2 eq_ix2)

variable {F : FTy → Type} [FloatOps F]

local notation "𝕄" => MT nD τ sig (HIx 1) (Elt F) ℕ UU ℕ

/-! ## The host operations -/

/-- The host operations before the node pass: the head-summing matrix, the pre-scaled thresholds, the layouts the node pass and the edge pass read. -/
def ops0 : List (HloOp τ sig (Elt F)) :=
  [ StableHlo.nullary main_v0 (iotaInDim S16x16 32 0)
  , StableHlo.nullary main_v1 (iotaInDim S16x16 32 1)
  , StableHlo.nullary main_c (constantI S_ 32 0#32)
  , StableHlo.unary main_c main_v2 (broadcastInDim S16x16 ![] bcast_S_S16x16 : (⟨S_, .i32⟩ : BufTy).Contents (Elt F) → (⟨S16x16, .i32⟩ : BufTy).Contents (Elt F))
  , StableHlo.binary main_v0 main_v2 main_v3 (addi : (⟨S16x16, .i32⟩ : BufTy).Contents (Elt F) → (⟨S16x16, .i32⟩ : BufTy).Contents (Elt F) → (⟨S16x16, .i32⟩ : BufTy).Contents (Elt F))
  , StableHlo.binary main_v3 main_v1 main_v4 (cmpi .eq : (⟨S16x16, .i32⟩ : BufTy).Contents (Elt F) → (⟨S16x16, .i32⟩ : BufTy).Contents (Elt F) → (⟨S16x16, .i1⟩ : BufTy).Contents (Elt F))
  , StableHlo.unary main_v4 main_v5 (uitofp .f32 : (⟨S16x16, .i1⟩ : BufTy).Contents (Elt F) → (⟨S16x16, .f32⟩ : BufTy).Contents (Elt F))
  , StableHlo.reshape main_v5 main_v6 (rfl : (.f32 : EltTy) = .f32) shapeCasts_S16x16_S1x16x1x16
  , StableHlo.unary main_v6 main_v7 (broadcastInDim S1x16x16x16 ![0, 1, 2, 3] bcast_S1x16x1x16_S1x16x16x16_0_1_2_3 : (⟨S1x16x1x16, .f32⟩ : BufTy).Contents (Elt F) → (⟨S1x16x16x16, .f32⟩ : BufTy).Contents (Elt F))
  , StableHlo.reshape main_v7 main_v8 (rfl : (.f32 : EltTy) = .f32) shapeCasts_S1x16x16x16_S16x256
  , StableHlo.nullary main_cst (constant S_ .f32 0x42480000#32)
  , StableHlo.unary main_cst main_v9 (broadcastInDim S16x256 ![] bcast_S_S16x256 : (⟨S_, .f32⟩ : BufTy).Contents (Elt F) → (⟨S16x256, .f32⟩ : BufTy).Contents (Elt F))
  , StableHlo.binary main_v9 main_v8 main_v10 (mulf : (⟨S16x256, .f32⟩ : BufTy).Contents (Elt F) → (⟨S16x256, .f32⟩ : BufTy).Contents (Elt F) → (⟨S16x256, .f32⟩ : BufTy).Contents (Elt F))
  , StableHlo.unary main_arg6 main_v11 (broadcastInDim S16x16 ![0] bcast_S16_S16x16_0 : (⟨S16, .f32⟩ : BufTy).Contents (Elt F) → (⟨S16x16, .f32⟩ : BufTy).Contents (Elt F))
  , StableHlo.reshape main_v11 main_v12 (rfl : (.f32 : EltTy) = .f32) shapeCasts_S16x16_S256
  , StableHlo.nullary main_cst_0 (constant S_ .f32 0x42480000#32)
  , StableHlo.unary main_cst_0 main_v13 (broadcastInDim S256 ![] bcast_S_S256 : (⟨S_, .f32⟩ : BufTy).Contents (Elt F) → (⟨S256, .f32⟩ : BufTy).Contents (Elt F))
  , StableHlo.binary main_v13 main_v12 main_v14 (mulf : (⟨S256, .f32⟩ : BufTy).Contents (Elt F) → (⟨S256, .f32⟩ : BufTy).Contents (Elt F) → (⟨S256, .f32⟩ : BufTy).Contents (Elt F))
  , StableHlo.unary main_v14 main_v15 (broadcastInDim S1x256 ![1] bcast_S256_S1x256_1 : (⟨S256, .f32⟩ : BufTy).Contents (Elt F) → (⟨S1x256, .f32⟩ : BufTy).Contents (Elt F))
  , StableHlo.unary main_arg1 main_v16 (broadcastInDim S10000x1 ![0] bcast_S10000_S10000x1_0 : (⟨S10000, .f32⟩ : BufTy).Contents (Elt F) → (⟨S10000x1, .f32⟩ : BufTy).Contents (Elt F))
  , StableHlo.reshape main_arg4 main_v17 (rfl : (.i32 : EltTy) = .i32) shapeCasts_S10000_S10x1x1000
  , StableHlo.reshape main_arg3 main_v18 (rfl : (.f32 : EltTy) = .f32) shapeCasts_S160000_S10x2000x8
  , StableHlo.unary main_arg2 main_v19 ((extractStridedSlice S1x160000 ![0, 0] · slices_S2x160000_S1x160000_0_0) : (⟨S2x160000, .i32⟩ : BufTy).Contents (Elt F) → (⟨S1x160000, .i32⟩ : BufTy).Contents (Elt F))
  , StableHlo.reshape main_v19 main_v20 (rfl : (.i32 : EltTy) = .i32) shapeCasts_S1x160000_S160000
  , StableHlo.reshape main_v20 main_v21 (rfl : (.i32 : EltTy) = .i32) shapeCasts_S160000_S10x2000x8
  , StableHlo.unary main_v21 main_v22 ((transpose S10x8x2000 [0, 2, 1] · transposes_S10x2000x8_S10x8x2000_0_2_1) : (⟨S10x2000x8, .i32⟩ : BufTy).Contents (Elt F) → (⟨S10x8x2000, .i32⟩ : BufTy).Contents (Elt F)) ]

/-- The host operations between the SparseCore call and the edge pass. -/
def ops1 : List (HloOp τ sig (Elt F)) :=
  [ StableHlo.reshape main_v24_0 main_v25 (rfl : (.f32 : EltTy) = .f32) shapeCasts_S160000x16_S20000x128
  , StableHlo.reshape main_v24_1 main_v26 (rfl : (.f32 : EltTy) = .f32) shapeCasts_S160000x16_S20000x128
  , StableHlo.unary main_arg8 main_v27 (broadcastInDim S1x256 ![1] bcast_S256_S1x256_1 : (⟨S256, .f32⟩ : BufTy).Contents (Elt F) → (⟨S1x256, .f32⟩ : BufTy).Contents (Elt F))
  , StableHlo.unary main_arg10 main_v28 (broadcastInDim S1x10 ![1] bcast_S10_S1x10_1 : (⟨S10, .f32⟩ : BufTy).Contents (Elt F) → (⟨S1x10, .f32⟩ : BufTy).Contents (Elt F)) ]

/-- The program's `main`: the two stretches of host operations, the two pipelines and the SparseCore call. -/
theorem main_eq (d : Dev nD) : main (F := F) d = (StableHlo.seq ops0 >>= fun _ =>
    Prog.lift (.customCall (SparseCore.inner (Pipeline.entry 0)) ()) >>= fun _ => (K (F := F)).run d 0 >>= fun _ =>
    StableHlo.seq ops1 >>= fun _ => Prog.lift (.customCall (SparseCore.inner (Pipeline.entry 1)) ()) >>= fun _ => pure ⟨⟩) := by
  rfl

/-- A device's contents, at the TensorCore's own names. -/
abbrev atTc (d : Dev nD) (Y : Valuation τ sig (Elt F)) : (b : Ref sig .tc) → Buf (Elt F) ((d.tc : Thread nD τ).loc b) := fun b => Y b

/-- The waits a TensorCore may have recorded when `n` SparseCore calls are behind it. -/
abbrev waited (d : Dev nD) (n : ℕ) : Set (SemLoc sig × HIx 1) := {p | (K (F := F)).lev (T d, p.1) p.2 ≤ 8 * SparseCore.Cfg.Blocks.fst 1 1 n}

/-- The node pass's proof data, entered at the contents `Y`. -/
abbrev nodeOf (d : Dev nD) (Y : Valuation τ sig (Elt F)) : Dat τ (Elt F) (HIx 1) ℕ UU ℕ cfg0 d :=
  nodeDat d (atTc d Y) ((K (F := F)).Otc d 0) (waited (F := F) d 0)
/-- The edge pass's proof data, entered at the contents `Y`. -/
abbrev edgeOf (d : Dev nD) (Y : Valuation τ sig (Elt F)) : Dat τ (Elt F) (HIx 1) ℕ UU ℕ cfg2 d :=
  edgeDat d (atTc d Y) ((K (F := F)).Otc d 1) (waited (F := F) d 1)

/-- The contents after the node pass. -/
def afterNode (d : Dev nD) (Y : Valuation τ sig (Elt F)) : Valuation τ sig (Elt F) :=
  Function.update (Function.update (Function.update Y (main_v23_0 : DevRef τ sig) ((nodeOf d Y).arrAt 6 cfg0.N))
    (main_v23_1 : DevRef τ sig) ((nodeOf d Y).arrAt 7 cfg0.N)) (main_v23_2 : DevRef τ sig) ((nodeOf d Y).arrAt 8 cfg0.N)
/-- The contents after the SparseCore call. -/
def afterGather (Y : Valuation τ sig (Elt F)) : Valuation τ sig (Elt F) :=
  Function.update (Function.update Y (main_v24_0 : DevRef τ sig) (gathered (Y (main_v23_0 : DevRef τ sig)) (Y (main_arg2 : DevRef τ sig)) 0))
    (main_v24_1 : DevRef τ sig) (gathered (Y (main_v23_0 : DevRef τ sig)) (Y (main_arg2 : DevRef τ sig)) 1)
/-- The contents after the edge pass. -/
def afterEdge (d : Dev nD) (Y : Valuation τ sig (Elt F)) : Valuation τ sig (Elt F) :=
  Function.update (Function.update Y (main_v29_0 : DevRef τ sig) ((edgeOf d Y).arrAt 12 cfg2.N))
    (main_v29_1 : DevRef τ sig) ((edgeOf d Y).arrAt 13 cfg2.N)

section Stages

variable (m : (ℓ : Loc nD τ sig) → Buf (Elt F) ℓ)

def V0 (d : Dev nD) : Valuation τ sig (Elt F) := fun b => m (d, b)
def V1 (d : Dev nD) : Valuation τ sig (Elt F) := StableHlo.after ops0 (V0 m d)
def V2 (d : Dev nD) : Valuation τ sig (Elt F) := afterNode d (V1 m d)
def V3 (d : Dev nD) : Valuation τ sig (Elt F) := afterGather (V2 m d)
def V4 (d : Dev nD) : Valuation τ sig (Elt F) := StableHlo.after ops1 (V3 m d)
def V5 (d : Dev nD) : Valuation τ sig (Elt F) := afterEdge d (V4 m d)

/-- The proof data of the two pipelines. -/
def pdats : (p : Fin 2) → (c : Dev nD) → Dat τ (Elt F) (HIx 1) ℕ UU ℕ (Pipeline.pin (pcfgs (F := F)) adm p) c
  | ⟨0, _⟩ => fun c => nodeOf c (V1 m c)
  | ⟨1, _⟩ => fun c => edgeOf c (V4 m c)

end Stages

/-! ## A region as a segment between two contents of all the unscoped buffers -/

/-- The thread state between the items of `main`: every unscoped buffer at `Y`, what the core owes and has waited for. -/
def between (n : ℕ) (Y : Dev nD → Valuation τ sig (Elt F)) (d : Dev nD) : sProp 𝕄 :=
  iprop(StableHlo.held (d.tc : Thread nD τ) (Pipeline.ucRefs τ sig) (Y d)
    ∗ ∃ W, ⌜(K (F := F)).WBelow (T d) W (8 * SparseCore.Cfg.Blocks.fst 1 1 n)⌝ ∗ owes (T d) ((K (F := F)).Otc d n) W)

theorem Otc_none (d : Dev nD) (n : ℕ) (g : GSem nD τ sig) : (K (F := F)).Otc d n g none = 0 := by
  by_contra h
  have := (K (F := F)).lev_of_Otc_pos (Nat.pos_of_ne_zero h)
  rw [SparseCore.Cfg.lev_none] at this
  omega

/-- Pipeline `p`'s region from the contents `Yi` to the contents `Yo`. -/
def segOf (pd : (p : Fin 2) → (c : Dev nD) → Dat τ (Elt F) (HIx 1) ℕ UU ℕ (Pipeline.pin (pcfgs (F := F)) adm p) c) (p : Fin 2)
    (kit : Pipeline.LaunchFacts (nD := nD) (τ := τ) cfgs p) (n : ℕ) (Yi Yo : Dev nD → Valuation τ sig (Elt F))
    (hbody : ∀ c, BodyObligation (pd p c) (defs₀ (F := F)) 𝒱₀ none Set.univ)
    (howed : ∀ c t, (pd p c).owed t = (K (F := F)).Otc c n) (hrec : ∀ c t, (pd p c).recorded t = waited (F := F) c n)
    (hshare : ∀ c w, (pd p c).share w = fullShare)
    (hA : ∀ c w, (pd p c).A w = atTc c (Yi c) (Pipeline.arrRef (cfgs p).spec w))
    (hF : ∀ c w, (pd p c).arrAt w (Pipeline.pin (pcfgs (F := F)) adm p).N = atTc c (Yo c) (Pipeline.arrRef (cfgs p).spec w))
    (hrest : ∀ c b, b ∉ Finset.univ.image (Pipeline.arrRef (cfgs p).spec) → atTc c (Yo c) b = atTc c (Yi c) b)
    (I : Dev nD → ℕ → sProp 𝕄) (hΦ : ∀ c t, (pd p c).Φ t = I c t.val)
    (hin : ∀ c, (Pipeline.scopedRest (cfgs p).spec c : sProp 𝕄) ⊢ I c 0)
    (hout : ∀ c n, I c n ⊢ (Pipeline.scopedRest (cfgs p).spec c : sProp 𝕄)) :
    Pipeline.RegionSeg (pcfgs (F := F)) adm pd none defs₀ 𝒱₀ (K (F := F)).L (K (F := F)).lev p where
  win := kit.win.to₀
  block_pos := kit.block_pos
  stage_whole := kit.stage_whole
  K := PEmpty
  osem k := k.elim
  ho := Pipeline.OwnSemFacts.none _
  hbody c := (hbody c).loose
  hwaits c := Pipeline.cellsWaits_intro (Pipeline.pin (pcfgs (F := F)) adm) pd none p c fun w s t => by
    rw [howed]
    exact (K (F := F)).mayWait_none _ (Otc_none c n)
  pre := between n Yi
  post := between n Yo
  X _ := iprop(emp)
  Y _ := iprop(emp)
  Z c := Pipeline.unscopedRest (cfgs p).spec c (atTc c (Yi c))
  hentry c := by
    unfold between
    rw [Pipeline.ownSems0_none, Pipeline.prefHeld_of_none _ rfl, ← Pipeline.unscopedBufs_held]
    iintro ⟨⟨Hb, HO⟩, -, -⟩
    imodintro
    ihave Hb' := (Pipeline.arrays_of_unscopedBufs pcfgs adm pd kit.win kit.arr_whole c (hshare c) (atTc c (Yi c)) (hA c)) $$ Hb
    icases Hb' with ⟨Ha, Hr⟩
    isplitl [Ha]; · iexact Ha
    isplitr; · iempintro
    isplitl [HO]
    · unfold Pipeline.Dat.owesAt Pipeline.owesWithin Pipeline.Dat.bound
      rw [howed c 0, hrec c 0]
      icases HO with ⟨%W, %hW, HO⟩; iexists W
      isplitr; · ipureintro; exact fun q hq => Or.inl (hW q hq)
      iexact HO
    isplitr; · iempintro
    iexact Hr
  hin c := (show _ ⊢ (Pipeline.scopedRest (Pipeline.pin (pcfgs (F := F)) adm p).spec c : sProp 𝕄) from by
    iintro ⟨-, -, Hr⟩
    iexact Hr).trans ((hin c).trans (Entails.of_eq (hΦ c 0).symm))
  hout c := ((Entails.of_eq (hΦ c _)).trans (hout c _)).trans (by
    rw [Pipeline.ownSems0_none]
    iintro Hr
    isplitr; · iempintro
    isplitr; · iempintro
    iexact Hr)
  hexit c := by
    unfold between
    rw [← Pipeline.unscopedBufs_held]
    iintro ⟨Ha, HO, -, Hr⟩
    imodintro
    isplitl [Ha Hr]
    · iapply (Pipeline.unscopedBufs_of_arrays pcfgs adm kit.win kit.arr_whole c pd (hshare c) (atTc c (Yi c)) (atTc c (Yo c)) _ (hF c) (hrest c))
      isplitl [Ha]; · iexact Ha
      iexact Hr
    unfold Pipeline.Dat.owesAt Pipeline.owesWithin Pipeline.Dat.bound
    rw [howed c _, hrec c _]
    icases HO with ⟨%W, %hW, HO⟩; iexists W
    isplitr
    · ipureintro
      intro q hq
      rcases hW hq with h | ⟨w, s, h⟩
      · exact h
      · rw [h, SparseCore.Cfg.lev_none]; exact Nat.zero_le _
    iexact HO

end Cert.Proof.Kern

end
-- ==== Proof.Segments.lean ====
/-
  The two kernel regions of `main` as segments: the node pass and the edge pass, each between the contents of all the
  unscoped buffers before it and after it.
-/
module

public import proofs.«01_k».proof.Proof.Regions

@[expose] public section

set_option maxRecDepth 16384

noncomputable section

namespace Cert.Proof.Kern

open Cert.KernelIdeal Cert.KernelIdeal.Gen

open Idealize.ShloMosaic Idealize.ShloMosaic.TcCoe Idealize.ShloMosaic.Tactic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx (ix2 eq_ix2)

variable {F : FTy → Type} [FloatOps F]

local notation "𝕄" => MT nD τ sig (HIx 1) (Elt F) ℕ UU ℕ

/-- Distinct names of the TensorCore are distinct buffers of the device. -/
theorem dev_ne {a b : Ref sig .tc} (h : a ≠ b) : (a : DevRef τ sig) ≠ (b : DevRef τ sig) :=
  fun e => h (Proc.devRef_injective _ e)

section Stages

variable (m : (ℓ : Loc nD τ sig) → Buf (Elt F) ℓ)

/-! ## The node pass -/

theorem afterNode_of_ne (d : Dev nD) (Y : Valuation τ sig (Elt F)) (b : Ref sig .tc) (h0 : b ≠ main_v23_0) (h1 : b ≠ main_v23_1)
    (h2 : b ≠ main_v23_2) : afterNode d Y (b : DevRef τ sig) = Y (b : DevRef τ sig) := by
  unfold afterNode
  rw [Function.update_of_ne (dev_ne h2), Function.update_of_ne (dev_ne h1), Function.update_of_ne (dev_ne h0)]

theorem afterNode_0 (d : Dev nD) (Y : Valuation τ sig (Elt F)) :
    afterNode d Y (main_v23_0 : DevRef τ sig) = (nodeOf d Y).arrAt 6 cfg0.N := by
  unfold afterNode
  rw [Function.update_of_ne (dev_ne (by decide)), Function.update_of_ne (dev_ne (by decide)), Function.update_self]
theorem afterNode_1 (d : Dev nD) (Y : Valuation τ sig (Elt F)) :
    afterNode d Y (main_v23_1 : DevRef τ sig) = (nodeOf d Y).arrAt 7 cfg0.N := by
  unfold afterNode
  rw [Function.update_of_ne (dev_ne (by decide)), Function.update_self]
theorem afterNode_2 (d : Dev nD) (Y : Valuation τ sig (Elt F)) :
    afterNode d Y (main_v23_2 : DevRef τ sig) = (nodeOf d Y).arrAt 8 cfg0.N := by
  unfold afterNode
  rw [Function.update_self]

theorem node_inputs : ∀ w : Fin 9, (win0 w).isOut = false →
    Pipeline.arrRef spec0 w ≠ main_v23_0 ∧ Pipeline.arrRef spec0 w ≠ main_v23_1 ∧ Pipeline.arrRef spec0 w ≠ main_v23_2 := by decide

theorem node_final (d : Dev nD) (Y : Valuation τ sig (Elt F)) : ∀ w : Fin 9,
    (nodeOf d Y).arrAt w cfg0.N = atTc d (afterNode d Y) (Pipeline.arrRef spec0 w) := by
  have hin : ∀ w : Fin 9, (win0 w).isOut = false → (nodeOf d Y).arrAt w cfg0.N = atTc d (afterNode d Y) (Pipeline.arrRef spec0 w) := fun w hw =>
    ((nodeOf d Y).arrAt_in w hw _).trans
      (afterNode_of_ne d Y _ (node_inputs w hw).1 (node_inputs w hw).2.1 (node_inputs w hw).2.2).symm
  intro w
  match w with
  | ⟨0, _⟩ => exact hin 0 rfl
  | ⟨1, _⟩ => exact hin 1 rfl
  | ⟨2, _⟩ => exact hin 2 rfl
  | ⟨3, _⟩ => exact hin 3 rfl
  | ⟨4, _⟩ => exact hin 4 rfl
  | ⟨5, _⟩ => exact hin 5 rfl
  | ⟨6, _⟩ => exact (afterNode_0 d Y).symm
  | ⟨7, _⟩ => exact (afterNode_1 d Y).symm
  | ⟨8, _⟩ => exact (afterNode_2 d Y).symm

theorem node_rest (d : Dev nD) (Y : Valuation τ sig (Elt F)) (b : Ref sig .tc) (hb : b ∉ Finset.univ.image (Pipeline.arrRef spec0)) :
    atTc d (afterNode d Y) b = atTc d Y b :=
  afterNode_of_ne d Y b (fun e => hb (e ▸ Finset.mem_image_of_mem _ (Finset.mem_univ (6 : Fin 9))))
    (fun e => hb (e ▸ Finset.mem_image_of_mem _ (Finset.mem_univ (7 : Fin 9))))
    (fun e => hb (e ▸ Finset.mem_image_of_mem _ (Finset.mem_univ (8 : Fin 9))))

theorem node_share (d : Dev nD) (Y : Valuation τ sig (Elt F)) (w : Fin cfg0.W) : (nodeOf d Y).share w = fullShare := by
  unfold Pipeline.Dat.share
  split <;> rfl

theorem nodeOf_inv (d : Dev nD) (Y : Valuation τ sig (Elt F)) (t : Fin (cfg0.N + 1)) :
    (nodeOf d Y).Φ t = (Pipeline.scopedRest spec0 d : sProp 𝕄) := by
  dsimp only [nodeOf, nodeDat]

/-- The node pass's region, from the contents after the first host operations. -/
def nodeSeg : Pipeline.RegionSeg (pcfgs (F := F)) adm (pdats m) none defs₀ 𝒱₀ (K (F := F)).L (K (F := F)).lev 0 :=
  segOf (pdats m) 0 launch0 0 (V1 m) (V2 m) (fun c => node_obligation c _ _ _) (fun _ _ => rfl) (fun _ _ => rfl)
    (fun c => node_share c (V1 m c)) (fun _ _ => rfl) (fun c => node_final c (V1 m c)) (fun c b => node_rest c (V1 m c) b)
    (fun c _ => Pipeline.scopedRest spec0 c) (fun c t => nodeOf_inv c (V1 m c) t) (fun _ => .rfl) (fun _ _ => .rfl)

/-! ## The edge pass -/

theorem afterEdge_of_ne (d : Dev nD) (Y : Valuation τ sig (Elt F)) (b : Ref sig .tc) (h0 : b ≠ main_v29_0) (h1 : b ≠ main_v29_1) :
    afterEdge d Y (b : DevRef τ sig) = Y (b : DevRef τ sig) := by
  unfold afterEdge
  rw [Function.update_of_ne (dev_ne h1), Function.update_of_ne (dev_ne h0)]

theorem afterEdge_0 (d : Dev nD) (Y : Valuation τ sig (Elt F)) :
    afterEdge d Y (main_v29_0 : DevRef τ sig) = (edgeOf d Y).arrAt 12 cfg2.N := by
  unfold afterEdge
  rw [Function.update_of_ne (dev_ne (by decide)), Function.update_self]
theorem afterEdge_1 (d : Dev nD) (Y : Valuation τ sig (Elt F)) :
    afterEdge d Y (main_v29_1 : DevRef τ sig) = (edgeOf d Y).arrAt 13 cfg2.N := by
  unfold afterEdge
  rw [Function.update_self]

theorem edge_inputs : ∀ w : Fin 14, (win2 w).isOut = false →
    Pipeline.arrRef spec2 w ≠ main_v29_0 ∧ Pipeline.arrRef spec2 w ≠ main_v29_1 := by decide

theorem edge_final (d : Dev nD) (Y : Valuation τ sig (Elt F)) : ∀ w : Fin 14,
    (edgeOf d Y).arrAt w cfg2.N = atTc d (afterEdge d Y) (Pipeline.arrRef spec2 w) := by
  have hin : ∀ w : Fin 14, (win2 w).isOut = false → (edgeOf d Y).arrAt w cfg2.N = atTc d (afterEdge d Y) (Pipeline.arrRef spec2 w) := fun w hw =>
    ((edgeOf d Y).arrAt_in w hw _).trans
      (afterEdge_of_ne d Y _ (edge_inputs w hw).1 (edge_inputs w hw).2).symm
  intro w
  match w with
  | ⟨0, _⟩ => exact hin 0 rfl
  | ⟨1, _⟩ => exact hin 1 rfl
  | ⟨2, _⟩ => exact hin 2 rfl
  | ⟨3, _⟩ => exact hin 3 rfl
  | ⟨4, _⟩ => exact hin 4 rfl
  | ⟨5, _⟩ => exact hin 5 rfl
  | ⟨6, _⟩ => exact hin 6 rfl
  | ⟨7, _⟩ => exact hin 7 rfl
  | ⟨8, _⟩ => exact hin 8 rfl
  | ⟨9, _⟩ => exact hin 9 rfl
  | ⟨10, _⟩ => exact hin 10 rfl
  | ⟨11, _⟩ => exact hin 11 rfl
  | ⟨12, _⟩ => exact (afterEdge_0 d Y).symm
  | ⟨13, _⟩ => exact (afterEdge_1 d Y).symm

theorem edge_rest (d : Dev nD) (Y : Valuation τ sig (Elt F)) (b : Ref sig .tc) (hb : b ∉ Finset.univ.image (Pipeline.arrRef spec2)) :
    atTc d (afterEdge d Y) b = atTc d Y b :=
  afterEdge_of_ne d Y b (fun e => hb (e ▸ Finset.mem_image_of_mem _ (Finset.mem_univ (12 : Fin 14))))
    (fun e => hb (e ▸ Finset.mem_image_of_mem _ (Finset.mem_univ (13 : Fin 14))))

theorem edgeInv_last (c : Dev nD) (Y : (b : Ref sig .tc) → Buf (Elt F) ((c.tc : Thread nD τ).loc b)) (n : ℕ) :
    (edgeInv c Y n : sProp 𝕄) ⊢ Pipeline.scopedRest spec2 c := by
  cases n with
  | zero => exact .rfl
  | succ n =>
    rw [edgeInv_pos c Y _ n.succ_ne_zero]
    iintro ⟨H, Hw⟩
    iapply Hw
    iexists _; iexact H

theorem edge_share (d : Dev nD) (Y : Valuation τ sig (Elt F)) (w : Fin cfg2.W) : (edgeOf d Y).share w = fullShare := by
  unfold Pipeline.Dat.share
  split <;> rfl

theorem edgeOf_inv (d : Dev nD) (Y : Valuation τ sig (Elt F)) (t : Fin (cfg2.N + 1)) :
    (edgeOf d Y).Φ t = (edgeInv d (atTc d Y) t.val : sProp 𝕄) := by
  dsimp only [edgeOf, edgeDat]

/-- The edge pass's region, from the contents after the second host operations. -/
def edgeSeg : Pipeline.RegionSeg (pcfgs (F := F)) adm (pdats m) none defs₀ 𝒱₀ (K (F := F)).L (K (F := F)).lev 1 :=
  segOf (pdats m) 1 launch2 1 (V4 m) (V5 m) (fun c => edge_obligation c _ _ _) (fun _ _ => rfl) (fun _ _ => rfl)
    (fun c => edge_share c (V4 m c)) (fun _ _ => rfl) (fun c => edge_final c (V4 m c)) (fun c b => edge_rest c (V4 m c) b)
    (fun c n => edgeInv c (atTc c (V4 m c)) n) (fun c t => edgeOf_inv c (V4 m c) t) (fun _ => .rfl) (fun c n => edgeInv_last c (atTc c (V4 m c)) n)

end Stages

end Cert.Proof.Kern

end
-- ==== Proof.Launch.lean ====
/-
  The whole program: `main` on the TensorCore from the launch's contents to the final ones, the launch element, and
  what every execution ends with.
-/
module

public import proofs.«01_k».proof.Proof.Segments

@[expose] public section

set_option maxRecDepth 16384

noncomputable section

namespace Cert.Proof.Kern

open Cert.KernelIdeal Cert.KernelIdeal.Gen

open Idealize.ShloMosaic Idealize.ShloMosaic.TcCoe Idealize.ShloMosaic.Tactic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx (ix2 eq_ix2)

variable {F : FTy → Type} [FloatOps F]

local notation "𝕄" => MT nD τ sig (HIx 1) (Elt F) ℕ UU ℕ

/-! ## The host operations' side conditions -/

/-- What `ops0` writes, in order. -/
abbrev outs0 : List (Ref sig .tc) := [main_v0, main_v1, main_c, main_v2, main_v3, main_v4, main_v5, main_v6, main_v7, main_v8, main_cst, main_v9, main_v10, main_v11, main_v12, main_cst_0, main_v13, main_v14, main_v15, main_v16, main_v17, main_v18, main_v19, main_v20, main_v21, main_v22]

theorem ops0_writes : (ops0 (F := F)).map HloOp.writes = outs0.map fun r => {Proc.devRef (τ := τ) .tc r} := rfl
theorem ops0_fresh : ∀ op ∈ ops0 (F := F), op.fresh = ∅ := List.forall_iff_forall_mem.mp (StableHlo.forall_fresh_of_map rfl)
theorem ops0_sub : ∀ op ∈ ops0 (F := F), op.bufs ⊆ Pipeline.ucRefs τ sig := fun op hop =>
  Pipeline.sub_ucRefs op ((List.forall_iff_forall_mem.mp (show (ops0 (F := F)).Forall fun op => op.bufs ⊆ StableHlo.tcRefs τ sig from
    ⟨StableHlo.nullary_bufs_sub .., StableHlo.nullary_bufs_sub .., StableHlo.nullary_bufs_sub .., StableHlo.unary_bufs_sub .., StableHlo.binary_bufs_sub .., StableHlo.binary_bufs_sub .., StableHlo.unary_bufs_sub .., StableHlo.reshape_bufs_sub .., StableHlo.unary_bufs_sub .., StableHlo.reshape_bufs_sub .., StableHlo.nullary_bufs_sub .., StableHlo.unary_bufs_sub .., StableHlo.binary_bufs_sub .., StableHlo.unary_bufs_sub .., StableHlo.reshape_bufs_sub .., StableHlo.nullary_bufs_sub .., StableHlo.unary_bufs_sub .., StableHlo.binary_bufs_sub .., StableHlo.unary_bufs_sub .., StableHlo.unary_bufs_sub .., StableHlo.reshape_bufs_sub .., StableHlo.reshape_bufs_sub .., StableHlo.unary_bufs_sub .., StableHlo.reshape_bufs_sub .., StableHlo.reshape_bufs_sub .., StableHlo.unary_bufs_sub ..⟩)) op hop)
theorem ops0_keep (Y : Valuation τ sig (Elt F)) (b : Ref sig .tc) (hb : b ∉ outs0) : StableHlo.after ops0 Y (b : DevRef τ sig) = Y (b : DevRef τ sig) :=
  StableHlo.after_of_writes_sub ops0 Y (StableHlo.forall_writes_sub_of_map ops0_writes) hb

/-- What `ops1` writes, in order. -/
abbrev outs1 : List (Ref sig .tc) := [main_v25, main_v26, main_v27, main_v28]

theorem ops1_writes : (ops1 (F := F)).map HloOp.writes = outs1.map fun r => {Proc.devRef (τ := τ) .tc r} := rfl
theorem ops1_fresh : ∀ op ∈ ops1 (F := F), op.fresh = ∅ := List.forall_iff_forall_mem.mp (StableHlo.forall_fresh_of_map rfl)
theorem ops1_sub : ∀ op ∈ ops1 (F := F), op.bufs ⊆ Pipeline.ucRefs τ sig := fun op hop =>
  Pipeline.sub_ucRefs op ((List.forall_iff_forall_mem.mp (show (ops1 (F := F)).Forall fun op => op.bufs ⊆ StableHlo.tcRefs τ sig from
    ⟨StableHlo.reshape_bufs_sub .., StableHlo.reshape_bufs_sub .., StableHlo.unary_bufs_sub .., StableHlo.unary_bufs_sub ..⟩)) op hop)
theorem ops1_keep (Y : Valuation τ sig (Elt F)) (b : Ref sig .tc) (hb : b ∉ outs1) : StableHlo.after ops1 Y (b : DevRef τ sig) = Y (b : DevRef τ sig) :=
  StableHlo.after_of_writes_sub ops1 Y (StableHlo.forall_writes_sub_of_map ops1_writes) hb

/-! ## The SparseCore call between two contents -/

theorem afterGather_of_ne (Y : Valuation τ sig (Elt F)) (b : Ref sig .tc) (h0 : b ≠ main_v24_0) (h1 : b ≠ main_v24_1) :
    afterGather Y (b : DevRef τ sig) = Y (b : DevRef τ sig) := by
  unfold afterGather
  rw [Function.update_of_ne (dev_ne h1), Function.update_of_ne (dev_ne h0)]
theorem afterGather_0 (Y : Valuation τ sig (Elt F)) : afterGather Y (main_v24_0 : DevRef τ sig)
    = gathered (Y (main_v23_0 : DevRef τ sig)) (Y (main_arg2 : DevRef τ sig)) 0 := by
  unfold afterGather
  rw [Function.update_of_ne (dev_ne (by decide)), Function.update_self]
theorem afterGather_1 (Y : Valuation τ sig (Elt F)) : afterGather Y (main_v24_1 : DevRef τ sig)
    = gathered (Y (main_v23_0 : DevRef τ sig)) (Y (main_arg2 : DevRef τ sig)) 1 := by
  unfold afterGather
  rw [Function.update_self]

/-- The buffers the SparseCore call works on. -/
abbrev callRefs : Finset (Ref sig .tc) := {main_v23_0, main_arg2, main_v24_0, main_v24_1}
abbrev callDevs : Finset (DevRef τ sig) := callRefs.map ⟨Proc.devRef (sig := sig) .tc, Proc.devRef_injective _⟩

theorem callDevs_sub : callDevs ⊆ Pipeline.ucRefs τ sig := fun b hb => by
  obtain ⟨r, hr, rfl⟩ := Finset.mem_map.mp hb
  refine Finset.mem_filter.mpr ⟨StableHlo.devRef_mem_tcRefs _, ?_⟩
  exact (by decide : ∀ r ∈ callRefs, ¬ (Proc.devRef (τ := τ) .tc r).isScoped) r hr

/-- A TensorCore buffer of a device. -/
abbrev tLoc (d : Dev nD) (b : Ref sig .tc) : Loc nD τ sig := (SparseCore.T d).loc b

/-- Those buffers one by one. -/
theorem held_call (d : Dev nD) (Y : Valuation τ sig (Elt F)) :
    (StableHlo.held (d.tc : Thread nD τ) callDevs Y : sProp 𝕄)
      = iprop((nLoc d ↦{fullShare} Y (main_v23_0 : DevRef τ sig)) ∗ (eLoc d ↦{fullShare} Y (main_arg2 : DevRef τ sig))
        ∗ (uLoc d ↦{fullShare} Y (main_v24_0 : DevRef τ sig)) ∗ (vLoc d ↦{fullShare} Y (main_v24_1 : DevRef τ sig))) := by
  unfold StableHlo.held callDevs
  rw [bigSep_map, SparseCore.bigSep_insert' (by decide), SparseCore.bigSep_insert' (by decide), SparseCore.bigSep_insert' (by decide), bigSep_singleton]
  rfl

theorem held_rest (d : Dev nD) (Y : Valuation τ sig (Elt F)) :
    (StableHlo.held (d.tc : Thread nD τ) (Pipeline.ucRefs τ sig \ callDevs) (afterGather Y) : sProp 𝕄)
      = StableHlo.held (d.tc : Thread nD τ) (Pipeline.ucRefs τ sig \ callDevs) Y :=
  StableHlo.held_congr _ fun b hb => by
    obtain ⟨hu, hn⟩ := Finset.mem_sdiff.mp hb
    obtain ⟨r, -, rfl⟩ := Finset.mem_map.mp (Finset.mem_filter.mp hu).1
    refine afterGather_of_ne Y r ?_ ?_ <;> rintro rfl <;> exact hn (Finset.mem_map_of_mem _ (by decide))

section Main

variable (m : (ℓ : Loc nD τ sig) → Buf (Elt F) ℓ) (ρ : Dev nD → PrngReg)

/-- The node table and the edge list as the SparseCore call finds them. -/
abbrev tableOf (d : Dev nD) : Buf (Elt F) (nLoc d) := V2 m d (main_v23_0 : DevRef τ sig)
abbrev edgesOf (d : Dev nD) : Buf (Elt F) (eLoc d) := V2 m d (main_arg2 : DevRef τ sig)

abbrev PM : (K (F := F)).Pay (nD := nD) (Val := Elt F) (Name := ℕ) (U := UU) := P (tableOf m) (edgesOf m)

theorem call_give (d : Dev nD) : (StableHlo.held (d.tc : Thread nD τ) (Pipeline.ucRefs τ sig) (V2 m d) : sProp 𝕄)
    ⊢ iprop((bigSep Finset.univ fun c : Fin ((K (F := F)).nCore 0) => (PM m).st 0 d c)
      ∗ StableHlo.held (d.tc : Thread nD τ) (Pipeline.ucRefs τ sig \ callDevs) (V2 m d)) := by
  rw [StableHlo.held_sub_split _ callDevs_sub, held_call]
  iintro ⟨⟨Hn, He, Hu, Hv⟩, Hr⟩
  isplitr [Hr]
  · iapply (st_of_whole (tableOf m) (edgesOf m) d)
    isplitl [Hn]; · iexact Hn
    isplitl [He]; · iexact He
    isplitl [Hu]; · iexists _; iexact Hu
    iexists _; iexact Hv
  iexact Hr

theorem call_take (d : Dev nD) : iprop((bigSep Finset.univ fun c : Fin ((K (F := F)).nCore 0) => (PM m).dn 0 d c)
      ∗ StableHlo.held (d.tc : Thread nD τ) (Pipeline.ucRefs τ sig \ callDevs) (V2 m d))
    ⊢ (StableHlo.held (d.tc : Thread nD τ) (Pipeline.ucRefs τ sig) (V3 m d) : sProp 𝕄) := by
  unfold V3
  rw [StableHlo.held_sub_split _ callDevs_sub (afterGather (V2 m d)), held_rest, held_call, afterGather_0, afterGather_1,
    afterGather_of_ne _ main_v23_0 (by decide) (by decide), afterGather_of_ne _ main_arg2 (by decide) (by decide)]
  iintro ⟨Hd, Hr⟩
  isplitl [Hd]
  · iapply (whole_of_dn (tableOf m) (edgesOf m) d); iexact Hd
  iexact Hr

/-! ## The launch element -/

theorem pin_inj : Function.Injective (cellOf (nD := nD) (τ := τ) (Pipeline.pin (pcfgs (F := F)) adm)) := cellOf_inj

/-- A device's share of the staging cells' ghost state. -/
abbrev ghost (d : Dev nD) : sProp 𝕄 :=
  iprop((bigSep Finset.univ fun p : Fin 2 => Pipeline.cellsGhost (Pipeline.pin (pcfgs (F := F)) adm) EP p d)
    ∗ (bigSep Finset.univ fun p : Fin 2 => Pipeline.toksInit (Pipeline.pin (pcfgs (F := F)) adm) EP p d))

def u₀ : UU := (initOf (K (F := F)).hsCells (K (F := F)).hsToks,
  (initOf (Pipeline.cells (Pipeline.pin (pcfgs (F := F)) adm) pin_inj) (Pipeline.launchToks (Pipeline.pin (pcfgs (F := F)) adm) pin_inj), 1))

theorem hu₀ : (ownU (u₀ (F := F)) : sProp 𝕄)
    ⊢ |={Set.univ}=> iprop(BI.own (EH (initOf (K (F := F)).hsCells (K (F := F)).hsToks)) ∗ (bigSep Finset.univ fun d : Dev nD => ghost (F := F) d)
        ∗ bigSep Finset.univ fun thr : Thread nD τ => bigSep Finset.univ fun q : Fin 1 => (PM m).x q thr) := by
  have hx : (bigSep Finset.univ fun thr : Thread nD τ => bigSep Finset.univ fun q : Fin 1 => (PM m).x q thr) = (iprop(emp) : sProp 𝕄) :=
    (bigSep_congr fun _ _ => bigSep_univ_of_subsingleton (0 : Fin 1)).trans (bigSep_emp_const _)
  rw [hx, bigSep_sep']
  unfold u₀
  iintro Hu
  ihave H := (ownU_parts _ _) $$ Hu
  icases H with ⟨HH, HP⟩
  ihave HG := (Pipeline.fund_ghost (Pipeline.pin (pcfgs (F := F)) adm) EP pin_inj) $$ HP
  imod HG
  imodintro
  isplitl [HH]; · iexact HH
  isplitl [HG]; · iexact HG
  iempintro

/-! ## `main` on the TensorCore -/

/-- The call of pipeline `p`, as the certificate's own program says it; -/
abbrev callOf (p : Fin 2) : Prog (TpuEff nD τ sig (Elt F) (ΛP (F := F)) .tc) PUnit := .op (.customCall (Pipeline.entry p) ()) fun _ => .ret ⟨⟩
/-- as `main` says it. -/
theorem lift_call (p : Fin 2) : (SparseCore.liftProg (callOf (F := F) p) : Prog (TpuEff nD τ sig (Elt F) (SparseCore.Sig (ΛP (F := F)) 1) .tc) PUnit)
    = Prog.lift (.customCall (SparseCore.inner (Pipeline.entry p)) ()) := rfl

/-- A region's call: from its segment's entry state to its exit state. -/
theorem region_step {p : Fin 2} (R : Pipeline.RegionSeg (pcfgs (F := F)) adm (pdats m) none defs₀ 𝒱₀ (K (F := F)).L (K (F := F)).lev p)
    (κ : GSem nD τ sig → ℕ) (d : Dev nD) (Φ : PUnit → sProp 𝕄) :
    iprop((iprop(boundary (d.tc : Thread nD τ) ∗ R.post d) -∗ Φ ⟨⟩) ∗ boundary (d.tc : Thread nD τ) ∗ R.pre d ∗ (K (F := F)).ctx EH (PM m) κ
        ∗ Pipeline.cellsGhost (Pipeline.pin (pcfgs (F := F)) adm) EP p d ∗ Pipeline.toksInit (Pipeline.pin (pcfgs (F := F)) adm) EP p d)
      ⊢ wp frame (wpE ((K (F := F)).defs (D (F := F))) 𝒱 (T d) none) Set.univ
          (Prog.lift (.customCall (SparseCore.inner (Pipeline.entry p)) ())) Φ := by
  rw [← lift_call]
  refine BI.Entails.trans ?_ ((K (F := F)).wp_liftProg (D (F := F)) 𝒱 (T d) Set.univ none (callOf p) Φ)
  have key := Pipeline.RegionSeg.wp (pcfgs (F := F)) adm (pdats m) none pin_inj EP defs₀ 𝒱₀ (K (F := F)).L (K (F := F)).lev R d none
    (fun u hu => absurd hu (Option.not_mem_none u)) (fun _ => .ret ⟨⟩) Φ
  refine (show (_ : sProp 𝕄) ⊢ _ from ?_).trans key
  iintro ⟨Hk, Hb, Hp, #Hc, Hg, Ht⟩
  isplitl [Hk]
  · iintro H
    rw [wp_ret]
    imodintro
    iapply Hk; iexact H
  isplitl [Hb]; · iexact Hb
  isplitl [Hp]; · iexact Hp
  isplitr
  · iapply ((K (F := F)).ctx_levAts (P := PM m) (EH := EH) κ); iexact Hc
  isplitl [Hg]; · iexact Hg
  iexact Ht

/-- The node pass's region, between the buffers' contents before and after it. -/
theorem node_step (κ : GSem nD τ sig → ℕ) (d : Dev nD) (Φ : PUnit → sProp 𝕄) :
    iprop((iprop(boundary (d.tc : Thread nD τ) ∗ between 0 (V2 m) d) -∗ Φ ⟨⟩) ∗ boundary (d.tc : Thread nD τ) ∗ between 0 (V1 m) d ∗ (K (F := F)).ctx EH (PM m) κ
        ∗ Pipeline.cellsGhost (Pipeline.pin (pcfgs (F := F)) adm) EP 0 d ∗ Pipeline.toksInit (Pipeline.pin (pcfgs (F := F)) adm) EP 0 d)
      ⊢ wp frame (wpE ((K (F := F)).defs (D (F := F))) 𝒱 (T d) none) Set.univ
          (Prog.lift (.customCall (SparseCore.inner (Pipeline.entry 0)) ())) Φ :=
  region_step m (nodeSeg m) κ d Φ
/-- The edge pass's region, between the buffers' contents before and after it. -/
theorem edge_step (κ : GSem nD τ sig → ℕ) (d : Dev nD) (Φ : PUnit → sProp 𝕄) :
    iprop((iprop(boundary (d.tc : Thread nD τ) ∗ between 1 (V5 m) d) -∗ Φ ⟨⟩) ∗ boundary (d.tc : Thread nD τ) ∗ between 1 (V4 m) d ∗ (K (F := F)).ctx EH (PM m) κ
        ∗ Pipeline.cellsGhost (Pipeline.pin (pcfgs (F := F)) adm) EP 1 d ∗ Pipeline.toksInit (Pipeline.pin (pcfgs (F := F)) adm) EP 1 d)
      ⊢ wp frame (wpE ((K (F := F)).defs (D (F := F))) 𝒱 (T d) none) Set.univ
          (Prog.lift (.customCall (SparseCore.inner (Pipeline.entry 1)) ())) Φ :=
  region_step m (edgeSeg m) κ d Φ

/-- The TensorCore's launch-protocol state, its record of waits apart. -/
theorem tcSt_split (d : Dev nD) (n : ℕ) : ∃ R : sProp 𝕄, (K (F := F)).tcSt EH d n
    = iprop((∃ W, ⌜(K (F := F)).WBelow (T d) W (8 * SparseCore.Cfg.Blocks.fst 1 1 n)⌝ ∗ owes (T d) ((K (F := F)).Otc d n) W) ∗ R) := ⟨_, rfl⟩

/-- What `main` leaves. -/
abbrev FIN (d : Dev nD) : sProp 𝕄 := StableHlo.held (d.tc : Thread nD τ) (Pipeline.ucRefs τ sig) (V5 m d)

theorem two (Φ : Fin 2 → sProp 𝕄) : (bigSep Finset.univ Φ : sProp 𝕄) = iprop(Φ 0 ∗ Φ 1) :=
  bigSep_univ_eq_bigSepL [(0 : Fin 2), (1 : Fin 2)] (by decide) (by decide) Φ

set_option backward.isDefEq.respectTransparency.types false in
theorem hmain (κ : GSem nD τ sig → ℕ) (d : Dev nD) :
    iprop((K (F := F)).ctx EH (PM m) κ ∗ (K (F := F)).tcSt EH d 0 ∗ (K (F := F)).tcRes m ρ d ∗ ghost (F := F) d)
      ⊢ wp frame (wpE ((K (F := F)).defs (D (F := F))) 𝒱 (SparseCore.T d) none) Set.univ (main d)
          fun _ => iprop((K (F := F)).tcSt EH d 1 ∗ FIN m d ∗ (K (F := F)).tcEnd d) := by
  obtain ⟨R0, h0⟩ := tcSt_split (F := F) d 0
  obtain ⟨R1, h1⟩ := tcSt_split (F := F) d 1
  have hu : (unscopedBufs d (fun b => m (tLoc d b)) : sProp 𝕄) = StableHlo.held (d.tc : Thread nD τ) (Pipeline.ucRefs τ sig) (V0 m d) :=
    Pipeline.unscopedBufs_held d (V0 m d)
  unfold SparseCore.Cfg.tcRes SparseCore.Cfg.tcEnd ghost
  rw [main_eq, hu, two, two]
  iintro ⟨#Hctx, Hst, ⟨Hb, Hu, Hts, -⟩, ⟨Hg0, Hg1⟩, ⟨Ht0, Ht1⟩⟩
  have hseq0 := fun (k : PUnit → Prog (TpuEff nD τ sig (Elt F) (SparseCore.Sig (ΛP (F := F)) 1) .tc) PUnit) (Kk : PUnit → sProp 𝕄) =>
    StableHlo.wp_seq (defs := (K (F := F)).defs (D (F := F))) 𝒱 none Set.univ d (Pipeline.ucRefs τ sig) (β := PUnit) k (K := Kk)
    ops0 ops0_sub ops0_fresh (V0 m d)
  have hseq1 := fun (k : PUnit → Prog (TpuEff nD τ sig (Elt F) (SparseCore.Sig (ΛP (F := F)) 1) .tc) PUnit) (Kk : PUnit → sProp 𝕄) =>
    StableHlo.wp_seq (defs := (K (F := F)).defs (D (F := F))) 𝒱 none Set.univ d (Pipeline.ucRefs τ sig) (β := PUnit) k (K := Kk)
    ops1 ops1_sub ops1_fresh (V3 m d)
  iapply (hseq0 _ _) $$ [Hb Hu]
  · isplitl [Hb]; · iexact Hb
    iexact Hu
  iintro ⟨Hb, Hu⟩
  rw [wp_bind]
  ihave Hst' := (Entails.of_eq h0) $$ Hst
  icases Hst' with ⟨HO, HR⟩
  iapply (node_step m κ d _)
  isplitr [Hb Hu HO Hg0 Ht0]
  swap
  · isplitl [Hb]; · iexact Hb
    isplitl [Hu HO]
    · unfold between
      isplitl [Hu]; · iexact Hu
      iexact HO
    isplitr; · iexact Hctx
    isplitl [Hg0]; · iexact Hg0
    iexact Ht0
  unfold between
  iintro ⟨Hb, Hu, HO⟩
  rw [wp_bind]
  ihave Hc := (call_give m d) $$ Hu
  icases Hc with ⟨Hs, Hr⟩
  iapply ((K (F := F)).wp_run (D (F := F)) 𝒱 (EH := EH) (P := PM m) κ d 0) $$ [-]
  isplitr; · iexact Hctx
  isplitl [HO HR]
  · iapply (Entails.of_eq h0.symm)
    isplitl [HO]; · iexact HO
    iexact HR
  isplitl [Hs]; · iexact Hs
  iintro ⟨Hst, Hd⟩
  ihave Hu := (call_take m d) $$ [Hd Hr]
  · isplitl [Hd]; · iexact Hd
    iexact Hr
  iapply (hseq1 _ _) $$ [Hb Hu]
  · isplitl [Hb]; · iexact Hb
    iexact Hu
  iintro ⟨Hb, Hu⟩
  rw [wp_bind]
  ihave Hst' := (Entails.of_eq (show (K (F := F)).tcSt EH d ((0 : Fin 1).val + 1) = _ from h1)) $$ Hst
  icases Hst' with ⟨HO, HR⟩
  iapply (edge_step m κ d _)
  isplitr [Hb Hu HO Hg1 Ht1]
  swap
  · isplitl [Hb]; · iexact Hb
    isplitl [Hu HO]
    · unfold between
      isplitl [Hu]; · iexact Hu
      iexact HO
    isplitr; · iexact Hctx
    isplitl [Hg1]; · iexact Hg1
    iexact Ht1
  unfold between
  iintro ⟨Hb, Hu, HO⟩
  rw [wp_pure]
  imodintro
  isplitl [HO HR]
  · iapply (Entails.of_eq h1.symm)
    isplitl [HO]; · iexact HO
    iexact HR
  isplitl [Hu]; · iexact Hu
  isplitl [Hb]; · iexact Hb
  iexact Hts

/-! ## What the final memory holds -/

def fq (d : Dev nD) (s' : Phys nD τ sig (Elt F)) : Prop := ∀ b : Ref sig .tc, b.isScoped = false → s'.mem.mem (tLoc d b) = V5 m d (b : DevRef τ sig)

theorem hfin (d : Dev nD) (s' : Phys nD τ sig (Elt F)) : iprop(FIN m d ∗ SI s') ⊢ (⌜fq m d s'⌝ : sProp 𝕄) := by
  have one : ∀ b : {b : Ref sig .tc // b.isScoped = false}, iprop(FIN m d ∗ SI s')
      ⊢ (⌜s'.mem.mem (tLoc d b.1) = V5 m d (b.1 : DevRef τ sig)⌝ : sProp 𝕄) := fun b => by
    have hmem : (b.1 : DevRef τ sig) ∈ Pipeline.ucRefs τ sig :=
      Finset.mem_filter.mpr ⟨StableHlo.devRef_mem_tcRefs _, by have := b.2; simpa using this⟩
    unfold FIN
    rw [StableHlo.held_sub_split _ (Finset.singleton_subset_iff.mpr hmem)]
    unfold StableHlo.held
    rw [bigSep_singleton]
    iintro ⟨⟨Hb, -⟩, HSI⟩
    ihave H := (SI_pointsTo_agree (st := s') (ℓ := tLoc d b.1) (I := Finset.univ) (q := fullShare) (f := V5 m d (b.1 : DevRef τ sig))) $$ [HSI Hb]
    · isplitl [HSI]; · iexact HSI
      iexact Hb
    icases H with %h
    ipureintro; exact funext fun i => h i (Finset.mem_univ i)
  exact ((Laws.forall_intro one).trans Laws.pure_forall.2).trans (Laws.pure_mono fun all b hb => all ⟨b, hb⟩)

/-- Every unscoped buffer of every device at its final contents, every counter at zero. -/
def QC : PUnit × MemSt nD τ sig (Elt F) → Prop := fun r =>
  (∀ (d : Dev nD) (b : Ref sig .tc), b.isScoped = false → r.2.mem (tLoc d b) = V5 m d (b : DevRef τ sig)) ∧ r.2.sem = fun _ => 0

theorem run_main [∀ e, Nonempty (Elt F e)] (hpre : PreOK (edgesOf m)) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := PM m) (A := ∅) facts v₀
    (fun q hq => match q with | 0 => nomatch hq)
    (fun q _ => match q with | 0 => tileObl (tableOf m) (edgesOf m) facts hpre)
    (fun q _ => match q with | 0 => SparseCore.Cfg.VecSplit.of_plain (vecSplit (tableOf m) (edgesOf m)))
    m ρ main (fun d => ghost (F := F) d) (FIN m) (u₀ (F := F)) (sep_elim_left.trans (hu₀ m)) (hmain m ρ) (fq m) (hfin m) (QC m) (fun _ h hz => ⟨h, hz⟩)

/-! ## The arguments are never written -/

/-- A buffer no operation, region or call writes keeps the launch's contents. -/
theorem V5_keep (d : Dev nD) (b : Ref sig .tc)
    (hb : b ∉ outs0 ++ outs1 ++ [main_v23_0, main_v23_1, main_v23_2, main_v24_0, main_v24_1, main_v29_0, main_v29_1]) :
    V5 m d (b : DevRef τ sig) = m (tLoc d b) := by
  simp only [List.mem_append, List.mem_cons, List.not_mem_nil, or_false, not_or] at hb
  have h0 : b ∉ outs0 := by
    simp only [outs0, List.mem_cons, List.not_mem_nil, or_false, not_or]; exact hb.1.1
  have h1 : b ∉ outs1 := by
    simp only [outs1, List.mem_cons, List.not_mem_nil, or_false, not_or]; exact hb.1.2
  unfold V5 V4 V3 V2 V1
  rw [afterEdge_of_ne _ _ _ hb.2.2.2.2.2.2.1 hb.2.2.2.2.2.2.2, ops1_keep _ _ h1, afterGather_of_ne _ _ hb.2.2.2.2.1 hb.2.2.2.2.2.1,
    afterNode_of_ne _ _ _ hb.2.1 hb.2.2.1 hb.2.2.2.1, ops0_keep _ _ h0]
  rfl

/-- The edge list reaches the SparseCore call as the launch had it. -/
theorem edgesOf_eq (d : Dev nD) : edgesOf m d = m (tLoc d main_arg2) := by
  unfold edgesOf V2 V1
  rw [afterNode_of_ne _ _ _ (by decide) (by decide) (by decide), ops0_keep _ _ (by decide)]
  rfl

end Main

end Cert.Proof.Kern

end
-- ==== Proof.Pre.lean ====
/-
  What the precondition `in_range` says of the argument words and the frame of the idealized kernel.
-/
module

public import proofs.«01_k».proof.Proof.Launch
public import proofs.«01_k».proof.Proof.Gen.Pre_in_range
public import proofs.«01_k».proof.Defs
public import Idealize.ShloMosaic.Lib.ReduceAll

@[expose] public section

set_option maxRecDepth 16384

noncomputable section

namespace Cert.Proof.Kern

open Cert.KernelIdeal Cert.KernelIdeal.Gen

open Idealize.ShloMosaic Idealize.ShloMosaic.TcCoe Idealize.SL.Sem
open Idealize.ShloMosaic.ValueIdx (ix1 ix2 eq_ix2)

variable {F : FTy → Type} [FloatOps F]

/-- The words of the edge list name nodes; the graph numbers are below 64 and do not go down. -/
structure InRange (E : IVec S2x160000 32) (B : IVec S10000 32) : Prop where
  node : ∀ j, (E j).toNat < 10000
  graph : ∀ j, (B j).toNat < 64
  step : ∀ i : Fin 9999, (B (ix1 (⟨i.val, by have := i.isLt; omega⟩ : Fin 10000))).toNat
    ≤ (B (ix1 (⟨i.val + 1, by have := i.isLt; omega⟩ : Fin 10000))).toNat

theorem toNat_lt_of_cmp {w : BitVec 32} {n : Nat} (hn : n < 2147483648) (h0 : IntOp.cmpi .sge w 0#32 = 1#1) (h1 : IntOp.cmpi .slt w (BitVec.ofNat 32 n) = 1#1) :
    w.toNat < n := by
  have a := IntOp.cmpi_sge.1 h0
  have b := IntOp.cmpi_slt.1 h1
  simp only [BitVec.toInt_eq_toNat_cond, BitVec.toNat_ofNat, Nat.reducePow, Nat.reduceMod] at a b
  omega

theorem inRange_of_fn (x : FVec F S10000x128 .f32) (nw : FVec F S10000 .f32) (E : IVec S2x160000 32) (ew : FVec F S160000 .f32) (B : IVec S10000 32)
    (v : FVec F S128x16 .f32) (lin : FVec F S16 .f32) (a7 : FVec F S256x256 .f32) (a8 : FVec F S256 .f32) (a9 : FVec F S10x256 .f32) (a10 : FVec F S10 .f32)
    (h : Cert.Pre_in_range.fn (F := F) x nw E ew B v lin a7 a8 a9 a10 = fun _ => 1#1) : InRange E B := by
  have e := congrFun h (fun a => nomatch a)
  unfold Cert.Pre_in_range.fn Cert.Pre_in_range.fn_part1 at e
  obtain ⟨e1, e3⟩ := IntOp.andi_eq_one.1 e
  obtain ⟨e1, e2⟩ := IntOp.andi_eq_one.1 e1
  have node : ∀ j, (E j).toNat < 10000 := fun j => by
    obtain ⟨a, b⟩ := IntOp.andi_eq_one.1 (Host.reduce_andi_all _ _ _ _ _ e1 j)
    exact toNat_lt_of_cmp (by omega) a b
  have graph : ∀ j, (B j).toNat < 64 := fun j => by
    obtain ⟨a, b⟩ := IntOp.andi_eq_one.1 (Host.reduce_andi_all _ _ _ _ _ e2 j)
    exact toNat_lt_of_cmp (by omega) a b
  refine ⟨node, graph, fun i => ?_⟩
  have a := IntOp.cmpi_sle.1 (Host.reduce_andi_all _ _ _ _ _ e3 (ix1 i))
  have g0 := graph (ix1 (⟨i.val, by have := i.isLt; omega⟩ : Fin 10000))
  have g1 := graph (ix1 (⟨i.val + 1, by have := i.isLt; omega⟩ : Fin 10000))
  have q0 : extractStridedSlice Cert.Pre_in_range.S9999 ![0] B Cert.Pre_in_range.Gen.facts.slices_S10000_S9999_0 (ix1 i)
      = B (ix1 (⟨i.val, by have := i.isLt; omega⟩ : Fin 10000)) :=
    congrArg B (funext fun k => Fin.ext (by obtain rfl := Subsingleton.elim k (0 : Fin 1); show 0 + i.val = i.val; omega))
  have q1 : extractStridedSlice Cert.Pre_in_range.S9999 ![1] B Cert.Pre_in_range.Gen.facts.slices_S10000_S9999_1 (ix1 i)
      = B (ix1 (⟨i.val + 1, by have := i.isLt; omega⟩ : Fin 10000)) :=
    congrArg B (funext fun k => Fin.ext (by obtain rfl := Subsingleton.elim k (0 : Fin 1); show 1 + i.val = i.val + 1; omega))
  have a' := (congrArg BitVec.toInt q0).symm.le.trans (a.trans (congrArg BitVec.toInt q1).le)
  simp only [BitVec.toInt_eq_toNat_cond, Nat.reducePow] at a'
  omega

/-- What every run ends with, read at the arguments. -/
theorem args_of_QC {m : (ℓ : Loc nD τ sig) → Buf (Elt F) ℓ} {r : PUnit × MemSt nD τ sig (Elt F)} (h : QC m r) (c : Dev nD) :
    r.2.mem (tLoc c main_arg0) = m (tLoc c main_arg0) ∧ r.2.mem (tLoc c main_arg1) = m (tLoc c main_arg1)
    ∧ r.2.mem (tLoc c main_arg2) = m (tLoc c main_arg2) ∧ r.2.mem (tLoc c main_arg3) = m (tLoc c main_arg3)
    ∧ r.2.mem (tLoc c main_arg4) = m (tLoc c main_arg4) ∧ r.2.mem (tLoc c main_arg5) = m (tLoc c main_arg5)
    ∧ r.2.mem (tLoc c main_arg6) = m (tLoc c main_arg6) ∧ r.2.mem (tLoc c main_arg7) = m (tLoc c main_arg7)
    ∧ r.2.mem (tLoc c main_arg8) = m (tLoc c main_arg8) ∧ r.2.mem (tLoc c main_arg9) = m (tLoc c main_arg9)
    ∧ r.2.mem (tLoc c main_arg10) = m (tLoc c main_arg10) := by
  refine ⟨?_, ?_, ?_, ?_, ?_, ?_, ?_, ?_, ?_, ?_, ?_⟩ <;>
    exact (h.1 c _ (by decide)).trans (V5_keep m c _ (by decide))

theorem preOK (m : (ℓ : Loc nD τ sig) → Buf (Elt F) ℓ) (h : ∀ d, InRange (m (tLoc d main_arg2)) (m (tLoc d main_arg4))) : PreOK (edgesOf m) := fun d j => by
  rw [edgesOf_eq]; exact (h d).node j

theorem inRange_ideal (m : (ℓ : Loc nD τ sig) → Buf (Elt Ideal) ℓ) (h : Cert.Pre_KernelIdeal m) (d : Dev nD) :
    InRange (m (tLoc d main_arg2)) (m (tLoc d main_arg4)) := by
  have e := h d
  exact inRange_of_fn _ _ _ _ _ _ _ _ _ _ _ e

theorem inRange_bits (m : (ℓ : Loc nD τ sig) → Buf (Elt Bits) ℓ) (h : Cert.Pre_Kernel m) (d : Dev nD) :
    InRange (m (tLoc d main_arg2)) (m (tLoc d main_arg4)) := by
  have e := h d
  exact inRange_of_fn _ _ _ _ _ _ _ _ _ _ _ e

theorem frame_ideal : Cert.quiescent_KernelIdeal := fun m ρ hpre =>
  (θ_run (Cert.KernelIdeal.defs (F := Ideal)) _ _).mono (fun _ h => ⟨fun c => args_of_QC h c, h.2⟩)
    (run_main (F := Ideal) m ρ (preOK m (inRange_ideal m hpre)))

end Cert.Proof.Kern

end
-- ==== Proof.Frames.lean ====
/-
  The kernel's own program is the idealized one's text at the machine's floats, so its run is the same run.
-/
module

public import proofs.«01_k».proof.Proof.Pre
public import proofs.«01_k».proof.Proof.Gen.Kernel
public import proofs.«01_k».proof.Defs

@[expose] public section

set_option maxRecDepth 16384

noncomputable section

namespace Cert.Proof.Kern

open Cert.KernelIdeal Cert.KernelIdeal.Gen

open Idealize.ShloMosaic Idealize.ShloMosaic.TcCoe Idealize.SL.Sem
open Idealize.ShloMosaic.ValueIdx (ix1 ix2 eq_ix2)

variable {F : FTy → Type} [FloatOps F]

set_option smartUnfolding false in
set_option maxHeartbeats 1000000 in
theorem bodies_eq : Cert.Kernel.defs₀ (F := Bits) = Cert.KernelIdeal.defs₀ (F := Bits) := rfl

set_option maxHeartbeats 4000000 in
theorem defs_eq : Cert.Kernel.defs (F := Bits) = Cert.KernelIdeal.defs (F := Bits) :=
  congrArg (fun x => (Cert.KernelIdeal.sc (F := Bits)).defs (Pipeline.defs Cert.KernelIdeal.pcfgs x)) bodies_eq

set_option maxHeartbeats 4000000 in
theorem main_text (d : Dev nD) : Cert.Kernel.main (F := Bits) d = (StableHlo.seq ops0 >>= fun _ =>
    Prog.lift (.customCall (SparseCore.inner (Pipeline.entry 0)) ()) >>= fun _ => (K (F := Bits)).run d 0 >>= fun _ =>
    StableHlo.seq ops1 >>= fun _ => Prog.lift (.customCall (SparseCore.inner (Pipeline.entry 1)) ()) >>= fun _ => pure ⟨⟩) := by
  rfl

set_option maxHeartbeats 4000000 in
theorem threads_eq : Cert.Kernel.threads (F := Bits) = Cert.KernelIdeal.threads (F := Bits) :=
  congrArg (fun x => (Cert.KernelIdeal.sc (F := Bits)).threads x) (funext fun d => (main_text d).trans (main_eq d).symm)

set_option maxHeartbeats 4000000 in
theorem frame_kernel : Cert.quiescent_Kernel := fun m ρ hpre => by
  have h := (θ_run (Cert.KernelIdeal.defs (F := Bits)) _ _).mono (fun _ h => And.intro (fun c => args_of_QC (F := Bits) (m := m) h c) h.2)
    (run_main (F := Bits) m ρ (preOK m (inRange_bits m hpre)))
  rw [← defs_eq, ← threads_eq] at h
  exact h

end Cert.Proof.Kern

end
-- ==== Proof.Ref.lean ====
/-
  The reference's frames: its run, read at the arguments; it declares no counter.
-/
module

public import proofs.«01_k».proof.Defs
public import proofs.«01_k».proof.Proof.Gen.ReferenceIdeal
public import proofs.«01_k».proof.Proof.Gen.ReferenceIdeal.Run
public import proofs.«01_k».proof.Proof.Gen.Pre_in_range
public import Idealize.ShloMosaic.Lib.Quiescent

@[expose] public section

noncomputable section

namespace Cert.Proof.Ref

open Idealize.ShloMosaic Idealize.SL.Sem

theorem frame : Cert.quiescent_ReferenceIdeal := fun m ρ _ =>
  (θ_run Cert.ReferenceIdeal.defs _ _).mono (fun r h => ⟨fun c => (h c).2.2, sem_eq_zero_of_no_sems (by decide) r.2⟩)
    (Cert.ReferenceIdeal.Value.run (F := Ideal) m ρ)

theorem frame_in_range : Cert.quiescent_ReferenceIdeal_pre_in_range := fun m ρ _ => frame m ρ trivial

end Cert.Proof.Ref

end
-- ==== Proof.Sigmoid.lean ====
/-
  The activation, over the extended reals. The reference writes the logistic function of 100·(a − b) with an
  exponential and a division; the kernel writes 0.5 + 0.5·tanh of 50·a − 50·b. Both are one real number `sg (a - b)`
  between 0 and 1, whatever extended reals a and b are.
-/
module

public import Idealize.ShloMosaic.Lib.IdealHost
public import Mathlib.Analysis.SpecialFunctions.Trigonometric.Basic
public import Mathlib.Analysis.SpecialFunctions.Exp
public import Mathlib.Tactic.FieldSimp
public import Mathlib.Tactic.Linarith
public import Mathlib.Tactic.NormNum
public import Mathlib.Tactic.Positivity
public import Mathlib.Tactic.Ring

@[expose] public section

noncomputable section

namespace Cert.Proof.Kern

open Idealize.ShloMosaic

/-- The logistic function of 100·x as a real: 0 at minus infinity and 1 at plus infinity. -/
def sg : EReal → ℝ
  | ⊥ => 0
  | ⊤ => 1
  | (r : ℝ) => 1 / (1 + Real.exp (-(100 * r)))

theorem sg_bot : sg ⊥ = 0 := rfl
theorem sg_top : sg ⊤ = 1 := rfl
theorem sg_coe (r : ℝ) : sg (r : EReal) = 1 / (1 + Real.exp (-(100 * r))) := rfl

/-! ## The constants of the two programs -/

theorem word_half : Ideal.ofBits .f32 0x3F000000#32 = ((1 / 2 : ℝ) : EReal) := by
  simp [Ideal.ofBits, Ideal.ieee, -EReal.coe_mul]; norm_num

theorem word_fifty : Ideal.ofBits .f32 0x42480000#32 = ((50 : ℝ) : EReal) := by
  simp [Ideal.ofBits, Ideal.ieee, -EReal.coe_mul]; norm_num

theorem word_hundred : Ideal.ofBits .f32 0x42C80000#32 = ((100 : ℝ) : EReal) := by
  simp [Ideal.ofBits, Ideal.ieee, -EReal.coe_mul]; norm_num

theorem word_least : Ideal.ofBits .f32 0xFF800000#32 = ⊥ := by
  simp [Ideal.ofBits, Ideal.ieee]

/-! ## A positive factor -/

theorem fifty_sub (a b : EReal) : ((50 : ℝ) : EReal) * a - ((50 : ℝ) : EReal) * b = ((50 : ℝ) : EReal) * (a - b) := by
  have h50 : (0 : ℝ) < 50 := by norm_num
  induction a with
  | bot => simp [EReal.coe_mul_bot_of_pos h50]
  | top =>
    induction b with
    | bot => simp [EReal.coe_mul_bot_of_pos h50, EReal.coe_mul_top_of_pos h50]
    | top => simp [EReal.coe_mul_bot_of_pos h50, EReal.coe_mul_top_of_pos h50]
    | coe b => rw [EReal.coe_mul_top_of_pos h50, ← EReal.coe_mul, EReal.top_sub_coe, EReal.top_sub_coe, EReal.coe_mul_top_of_pos h50]
  | coe a =>
    induction b with
    | bot => rw [EReal.coe_mul_bot_of_pos h50, ← EReal.coe_mul, EReal.coe_sub_bot, EReal.coe_sub_bot, EReal.coe_mul_top_of_pos h50]
    | top => simp [EReal.coe_mul_bot_of_pos h50, EReal.coe_mul_top_of_pos h50]
    | coe b => norm_cast; ring

/-- Halving and shifting the hyperbolic tangent gives the logistic function. -/
theorem half_tanh (r : ℝ) : 1 / 2 + 1 / 2 * Real.tanh (50 * r) = 1 / (1 + Real.exp (-(100 * r))) := by
  rw [Real.tanh_eq_sinh_div_cosh, Real.sinh_eq, Real.cosh_eq]
  have e : Real.exp (-(100 * r)) = Real.exp (-(50 * r)) * Real.exp (-(50 * r)) := by
    rw [← Real.exp_add]; congr 1; ring
  have i : Real.exp (50 * r) * Real.exp (-(50 * r)) = 1 := by rw [← Real.exp_add]; simp
  have p := Real.exp_pos (50 * r)
  have q := Real.exp_pos (-(50 * r))
  rw [e]
  generalize Real.exp (50 * r) = u at *
  generalize Real.exp (-(50 * r)) = v at *
  have hu : u = 1 / v := by field_simp; linarith
  subst hu
  field_simp
  ring

/-- The kernel's activation. -/
theorem tanh_sg (x : EReal) :
    ((1 / 2 : ℝ) : EReal) + ((1 / 2 : ℝ) : EReal) * Ideal.tanh (((50 : ℝ) : EReal) * x) = ((sg x : ℝ) : EReal) := by
  have h50 : (0 : ℝ) < 50 := by norm_num
  induction x with
  | bot =>
    rw [EReal.coe_mul_bot_of_pos h50]
    show ((1 / 2 : ℝ) : EReal) + ((1 / 2 : ℝ) : EReal) * (-1) = ((0 : ℝ) : EReal)
    rw [show (-1 : EReal) = ((-1 : ℝ) : EReal) by rw [EReal.coe_neg, EReal.coe_one], ← EReal.coe_mul, ← EReal.coe_add]; norm_num
  | top =>
    rw [EReal.coe_mul_top_of_pos h50]
    show ((1 / 2 : ℝ) : EReal) + ((1 / 2 : ℝ) : EReal) * 1 = ((1 : ℝ) : EReal)
    rw [show (1 : EReal) = ((1 : ℝ) : EReal) by norm_cast, ← EReal.coe_mul, ← EReal.coe_add]; norm_num
  | coe r =>
    rw [← EReal.coe_mul]
    show ((1 / 2 : ℝ) : EReal) + ((1 / 2 : ℝ) : EReal) * ((Real.tanh (50 * r) : ℝ) : EReal) = _
    rw [← EReal.coe_mul, ← EReal.coe_add, half_tanh, sg_coe]

/-- The reference's activation. -/
theorem div_sg (x : EReal) :
    Ideal.div 1 (1 + Ideal.exp (-(((100 : ℝ) : EReal) * x))) = ((sg x : ℝ) : EReal) := by
  have h100 : (0 : ℝ) < 100 := by norm_num
  induction x with
  | bot =>
    rw [EReal.coe_mul_bot_of_pos h100]
    show Ideal.div 1 (1 + Ideal.exp ⊤) = ((0 : ℝ) : EReal)
    show Ideal.div 1 (1 + ⊤) = ((0 : ℝ) : EReal)
    rw [EReal.add_top_of_ne_bot (by decide)]
    simp [Ideal.div]
  | top =>
    rw [EReal.coe_mul_top_of_pos h100]
    show Ideal.div 1 (1 + Ideal.exp ⊥) = ((1 : ℝ) : EReal)
    show Ideal.div 1 (1 + 0) = ((1 : ℝ) : EReal)
    simp [Ideal.div]
  | coe r =>
    rw [← EReal.coe_mul, ← EReal.coe_neg]
    show Ideal.div 1 (1 + ((Real.exp (-(100 * r)) : ℝ) : EReal)) = _
    have p := Real.exp_pos (-(100 * r))
    rw [show (1 : EReal) = ((1 : ℝ) : EReal) by norm_cast, ← EReal.coe_add]
    have hne : (1 : ℝ) + Real.exp (-(100 * r)) ≠ 0 := by positivity
    rw [Ideal.div, if_neg (by exact_mod_cast hne), ← EReal.coe_inv, ← EReal.coe_mul, sg_coe, one_div, one_mul]

/-- The kernel's activation, from the scaled operands. -/
theorem tanh_sg_sub (a b : EReal) :
    ((1 / 2 : ℝ) : EReal) + ((1 / 2 : ℝ) : EReal) * Ideal.tanh (((50 : ℝ) : EReal) * a - ((50 : ℝ) : EReal) * b)
      = ((sg (a - b) : ℝ) : EReal) := by
  rw [fifty_sub, tanh_sg]

/-! ## Sums of reals -/

theorem coe_sum {ι : Type*} (s : Finset ι) (f : ι → ℝ) : ((∑ i ∈ s, f i : ℝ) : EReal) = ∑ i ∈ s, ((f i : ℝ) : EReal) := by
  classical
  induction s using Finset.induction_on with
  | empty => simp
  | insert a s ha ih => rw [Finset.sum_insert ha, Finset.sum_insert ha, EReal.coe_add, ih]

end Cert.Proof.Kern
-- ==== Proof.Spec.lean ====
/-
  What the program computes, from its arguments: the node features, the activation of every node and of every edge in
  every direction at every step of the curve, and the sum over each graph's nodes less the sum over each graph's edges.
  Two facts about it in which the kernel differs from the reference: a graph's edges found by comparing the node number
  with the number of nodes that lie in an earlier graph, and a sum taken block by block.
-/
module

public import proofs.«01_k».proof.Proof.Gather
public import proofs.«01_k».proof.Proof.Pre
public import proofs.«01_k».proof.Proof.Sigmoid
public import Idealize.ShloMosaic.Lib.Pointwise

@[expose] public section

set_option maxRecDepth 16384

noncomputable section

namespace Cert.Proof.Kern

open Cert.KernelIdeal Cert.KernelIdeal.Gen
open Idealize.ShloMosaic

/-- The direction of a lane; -/
def dirOf (f : Fin 256) : Fin 16 := ⟨f.val % 16, by omega⟩
/-- its step of the curve. -/
def stepOf (f : Fin 256) : Fin 16 := ⟨f.val / 16, by omega⟩

/-- The arguments the results depend on up to the two dense layers. -/
structure Args where
  X : Vec Ideal S10000x128 .f32
  W : Vec Ideal S10000 .f32
  E : IVec S2x160000 32
  EW : Vec Ideal S160000 .f32
  B : IVec S10000 32
  V : Vec Ideal S128x16 .f32
  L : Vec Ideal S16 .f32

namespace Args

variable (A : Args)

/-- A node's feature in a direction. -/
def nodeH (n : Fin 10000) (d : Fin 16) : EReal := ∑ k : Fin 128, (A.X (ix2 n k) * A.W (ix1 n) * A.V (ix2 k d) : EReal)
/-- A node's activation in a lane. -/
def nodeSg (n : Fin 10000) (f : Fin 256) : ℝ := sg ((A.L (ix1 (stepOf f)) : EReal) - A.nodeH n (dirOf f))
/-- An edge's two ends; -/
def src (e : Fin 160000) : Fin 10000 := rowAt (A.E (ix2 0 e))
def dst (e : Fin 160000) : Fin 10000 := rowAt (A.E (ix2 1 e))
/-- its feature in a direction: the larger of its ends' features, weighted. -/
def edgeH (e : Fin 160000) (d : Fin 16) : EReal := max (A.nodeH (A.src e) d) (A.nodeH (A.dst e) d) * (A.EW (ix1 e) : EReal)
/-- An edge's activation in a lane. -/
def edgeSg (e : Fin 160000) (f : Fin 256) : ℝ := sg ((A.L (ix1 (stepOf f)) : EReal) - A.edgeH e (dirOf f))
/-- The graph of a node. -/
def graphOf (n : Fin 10000) : ℕ := (A.B (ix1 n)).toNat
/-- The sum over a graph's nodes, over its edges. -/
def nodeTot (g : ℕ) (f : Fin 256) : ℝ := ∑ n, if A.graphOf n = g then A.nodeSg n f else 0
def edgeTot (g : ℕ) (f : Fin 256) : ℝ := ∑ e, if A.graphOf (A.src e) = g then A.edgeSg e f else 0
/-- The result before the two dense layers. -/
def flat (g : ℕ) (f : Fin 256) : EReal := ((A.nodeTot g f : ℝ) : EReal) - ((A.edgeTot g f : ℝ) : EReal)

/-- The number of nodes in graphs before `g`. -/
def before (g : ℕ) : ℕ := (Finset.univ.filter fun n : Fin 10000 => A.graphOf n < g).card

theorem before_le (g : ℕ) : A.before g ≤ 10000 := by
  simpa [before] using Finset.card_filter_le (Finset.univ : Finset (Fin 10000)) (fun n => A.graphOf n < g)

variable {A} (hA : InRange A.E A.B)
include hA

theorem graphOf_lt (n : Fin 10000) : A.graphOf n < 64 := hA.graph _

theorem graphOf_mono {a b : ℕ} (hab : a ≤ b) (hb : b < 10000) : A.graphOf ⟨a, by omega⟩ ≤ A.graphOf ⟨b, hb⟩ := by
  induction b with
  | zero => obtain rfl : a = 0 := by omega
            exact le_rfl
  | succ b ih =>
    rcases Nat.lt_or_ge b a with h | h
    · obtain rfl : a = b + 1 := by omega
      exact le_rfl
    · exact (ih h (by omega)).trans (hA.step ⟨b, by omega⟩)

/-- The nodes being listed graph by graph, a node lies in graph `g` or a later one exactly when its number is at least
    the number of nodes in the graphs before. -/
theorem before_le_iff (g : ℕ) (n : Fin 10000) : A.before g ≤ n.val ↔ g ≤ A.graphOf n := by
  constructor
  · intro h
    by_contra hg
    have hs : (Finset.univ.filter fun k : Fin 10000 => k.val < n.val + 1) ⊆ Finset.univ.filter fun k : Fin 10000 => A.graphOf k < g := by
      intro k hk
      have hk' : k.val < n.val + 1 := (Finset.mem_filter.1 hk).2
      have := graphOf_mono hA (a := k.val) (b := n.val) (by omega) n.isLt
      exact Finset.mem_filter.2 ⟨Finset.mem_univ _, lt_of_le_of_lt this (not_le.1 hg)⟩
    have c := Finset.card_le_card hs
    rw [Fin.card_filter_val_lt] at c
    have : min 10000 (n.val + 1) = n.val + 1 := by omega
    unfold before at h
    omega
  · intro h
    have hs : (Finset.univ.filter fun k : Fin 10000 => A.graphOf k < g) ⊆ Finset.univ.filter fun k : Fin 10000 => k.val < n.val := by
      intro k hk
      have hk' : A.graphOf k < g := (Finset.mem_filter.1 hk).2
      refine Finset.mem_filter.2 ⟨Finset.mem_univ _, ?_⟩
      by_contra hn
      have := graphOf_mono hA (a := n.val) (b := k.val) (by omega) k.isLt
      exact absurd (lt_of_lt_of_le hk' h) (not_lt.2 this)
    have c := Finset.card_le_card hs
    rw [Fin.card_filter_val_lt] at c
    have : min 10000 n.val = n.val := by omega
    unfold before
    omega

/-- The sum over the edges from graph `g` on, by the comparison the kernel makes. -/
theorem edgeTot_eq (g : Fin 64) (f : Fin 256) :
    (∑ e, if A.before g ≤ (A.src e).val then A.edgeSg e f else 0)
      - (if g.val < 63 then ∑ e, (if A.before (1 + g.val) ≤ (A.src e).val then A.edgeSg e f else 0) else 0) = A.edgeTot g f := by
  have hg := g.isLt
  split
  · rename_i h
    rw [← Finset.sum_sub_distrib]
    refine Finset.sum_congr rfl fun e _ => ?_
    rw [if_congr (before_le_iff hA _ _) rfl rfl, if_congr (before_le_iff hA _ _) rfl rfl]
    split <;> split <;> split <;> first | omega | simp
  · rename_i h
    rw [sub_zero]
    refine Finset.sum_congr rfl fun e _ => ?_
    have := graphOf_lt hA (A.src e)
    rw [if_congr (before_le_iff hA _ _) rfl rfl]
    split <;> split <;> first | omega | simp

end Args

/-! ## Sums block by block -/

theorem sum_nodes {M : Type*} [AddCommMonoid M] (F : Fin 10000 → M) :
    ∑ t : Fin 10, ∑ r : Fin 1000, F ⟨1000 * t.val + r.val, by omega⟩ = ∑ n, F n := by
  rw [← Fintype.sum_prod_type' (f := fun (t : Fin 10) (r : Fin 1000) => F ⟨1000 * t.val + r.val, by omega⟩)]
  refine Fintype.sum_equiv (finProdFinEquiv (m := 10) (n := 1000)) _ _ fun x => ?_
  exact congrArg F (Fin.ext (by show 1000 * x.1.val + x.2.val = (finProdFinEquiv x).val; rw [finProdFinEquiv_apply_val]; omega))

theorem sum_edges {M : Type*} [AddCommMonoid M] (F : Fin 160000 → M) :
    ∑ t : Fin 10, ∑ k : Fin 8, ∑ r : Fin 2000, F ⟨16000 * t.val + 8 * r.val + k.val, by omega⟩ = ∑ e, F e := by
  have inner : ∀ t : Fin 10, ∑ k : Fin 8, ∑ r : Fin 2000, F ⟨16000 * t.val + 8 * r.val + k.val, by omega⟩
      = ∑ q : Fin 16000, F ⟨16000 * t.val + q.val, by omega⟩ := fun t => by
    rw [Finset.sum_comm]
    rw [← Fintype.sum_prod_type' (f := fun (r : Fin 2000) (k : Fin 8) => F ⟨16000 * t.val + 8 * r.val + k.val, by omega⟩)]
    refine Fintype.sum_equiv (finProdFinEquiv (m := 2000) (n := 8)) _ _ fun x => ?_
    exact congrArg F (Fin.ext (by show 16000 * t.val + 8 * x.1.val + x.2.val = 16000 * t.val + (finProdFinEquiv x).val; rw [finProdFinEquiv_apply_val]; omega))
  rw [Finset.sum_congr rfl fun t _ => inner t]
  rw [← Fintype.sum_prod_type' (f := fun (t : Fin 10) (q : Fin 16000) => F ⟨16000 * t.val + q.val, by omega⟩)]
  refine Fintype.sum_equiv (finProdFinEquiv (m := 10) (n := 16000)) _ _ fun x => ?_
  exact congrArg F (Fin.ext (by show 16000 * x.1.val + x.2.val = (finProdFinEquiv x).val; rw [finProdFinEquiv_apply_val]; omega))

/-- A row against the matrix that scales by fifty and repeats: the lane's own entry, scaled. -/
theorem scale_row (h : Fin 16 → EReal) (f : Fin 256) :
    ∑ d : Fin 16, h d * (if d.val = f.val % 16 then ((50 : ℝ) : EReal) else 0) = ((50 : ℝ) : EReal) * h (dirOf f) := by
  rw [Finset.sum_eq_single (dirOf f)]
  · rw [if_pos (show (dirOf f).val = f.val % 16 from rfl), mul_comm]
  · intro d _ hd
    rw [if_neg (fun e : d.val = f.val % 16 => hd (Fin.ext e)), mul_zero]
  · intro h; exact absurd (Finset.mem_univ _) h

end Cert.Proof.Kern
-- ==== Proof.HostValue.lean ====
/-
  The host operations before and between the two TensorCore passes, read at an index: the matrix that scales by fifty
  and repeats, the steps scaled by fifty, and the arguments laid out block by block.
-/
module

public import proofs.«01_k».proof.Proof.Launch
public import proofs.«01_k».proof.Proof.Spec
public import Idealize.ShloMosaic.Lib.StableHlo.ReadAt
public import Idealize.ShloMosaic.Lib.Pointwise

@[expose] public section

set_option maxRecDepth 16384

noncomputable section

namespace Cert.Proof.Kern

open Cert.KernelIdeal Cert.KernelIdeal.Gen
open Idealize.ShloMosaic Idealize.ShloMosaic.TcCoe

variable (Y : Valuation τ sig (Elt Ideal))

/-- A comparison's bit as a float. -/
theorem float_of_eq (a b : ℕ) (ha : a < 16) (hb : b < 16) :
    (FloatOps.uitofp (F := Ideal) FTy.f32 (IntOp.cmpi CmpIPredicate.eq (IntOp.addi (BitVec.ofNat 32 a) 0#32) (BitVec.ofNat 32 b)) : EReal)
      = if a = b then 1 else 0 := by
  have key : (IntOp.cmpi CmpIPredicate.eq (IntOp.addi (BitVec.ofNat 32 a) 0#32) (BitVec.ofNat 32 b)) = if a = b then 1#1 else 0#1 := by
    interval_cases a <;> interval_cases b <;> rfl
  rw [key]
  split
  · show (((1#1 : BitVec 1).toNat : ℝ) : EReal) = 1
    simp
  · show (((0#1 : BitVec 1).toNat : ℝ) : EReal) = 0
    simp

theorem host_scale (d : Fin 16) (f : Fin 256) : (StableHlo.after ops0 Y (main_v10 : DevRef τ sig) : Vec Ideal S16x256 .f32) (ix2 d f)
    = if d.val = f.val % 16 then ((50 : ℝ) : EReal) else 0 := by
  have e : (StableHlo.after ops0 Y (main_v10 : DevRef τ sig) : Vec Ideal S16x256 .f32) (ix2 d f)
      = (Ideal.ofBits FTy.f32 0x42480000#32 : EReal) * FloatOps.uitofp (F := Ideal) FTy.f32
          (IntOp.cmpi CmpIPredicate.eq (IntOp.addi (BitVec.ofNat 32 d.val) 0#32) (BitVec.ofNat 32 (f.val % 16))) := by
    unfold ops0; after_reads_at
  rw [e, float_of_eq _ _ d.isLt (Nat.mod_lt _ (by decide)), word_fifty]
  split <;> simp

theorem host_steps (f : Fin 256) : (StableHlo.after ops0 Y (main_v15 : DevRef τ sig) : Vec Ideal S1x256 .f32) (ix2 0 f)
    = ((50 : ℝ) : EReal) * (Y (main_arg6 : DevRef τ sig) : Vec Ideal S16 .f32) (ix1 (stepOf f)) := by
  rw [← word_fifty]
  unfold ops0 stepOf; after_reads_at

theorem host_weights (n : Fin 10000) : (StableHlo.after ops0 Y (main_v16 : DevRef τ sig) : Vec Ideal S10000x1 .f32) (ix2 n 0)
    = (Y (main_arg1 : DevRef τ sig) : Vec Ideal S10000 .f32) (ix1 n) := by
  unfold ops0; after_reads_at

theorem host_graphs (t : Fin 10) (r : Fin 1000) (n : Fin 10000) (hn : n.val = 1000 * t.val + r.val) :
    (StableHlo.after ops0 Y (main_v17 : DevRef τ sig) : IVec S10x1x1000 32) (ix3 t 0 r)
      = (Y (main_arg4 : DevRef τ sig) : IVec S10000 32) (ix1 n) := by
  have hn' : n = ⟨t.val * 1000 + r.val, by omega⟩ := Fin.ext (by simp only [hn]; omega)
  rw [hn']
  unfold ops0; after_reads_at

theorem host_edgeWeights (t : Fin 10) (r : Fin 2000) (k : Fin 8) (e : Fin 160000) (he : e.val = 16000 * t.val + 8 * r.val + k.val) :
    (StableHlo.after ops0 Y (main_v18 : DevRef τ sig) : Vec Ideal S10x2000x8 .f32) (ix3 t r k)
      = (Y (main_arg3 : DevRef τ sig) : Vec Ideal S160000 .f32) (ix1 e) := by
  have he' : e = ⟨t.val * 16000 + r.val * 8 + k.val, by omega⟩ := Fin.ext (by simp only [he]; omega)
  rw [he']
  unfold ops0; after_reads_at

theorem host_sources (t : Fin 10) (r : Fin 2000) (k : Fin 8) (e : Fin 160000) (he : e.val = 16000 * t.val + 8 * r.val + k.val) :
    (StableHlo.after ops0 Y (main_v22 : DevRef τ sig) : IVec S10x8x2000 32) (ix3 t k r)
      = (Y (main_arg2 : DevRef τ sig) : IVec S2x160000 32) (ix2 0 e) := by
  have he' : e = ⟨t.val * 16000 + r.val * 8 + k.val, by omega⟩ := Fin.ext (by simp only [he]; omega)
  rw [he']
  unfold ops0; after_reads_at

theorem host_packU (r : Fin 20000) (k : Fin 8) (d : Fin 16) (l : Fin 128) (hl : l.val = 16 * k.val + d.val) (e : Fin 160000) (he : e.val = 8 * r.val + k.val) :
    (StableHlo.after ops1 Y (main_v25 : DevRef τ sig) : Vec Ideal S20000x128 .f32) (ix2 r l)
      = (Y (main_v24_0 : DevRef τ sig) : Vec Ideal S160000x16 .f32) (ix2 e d) := by
  have he' : e = ⟨r.val * 8 + l.val / 16, by have := r.isLt; have := l.isLt; clear he; omega⟩ := Fin.ext (by simp only [he]; omega)
  have hd' : d = ⟨l.val % 16, Nat.mod_lt _ (by decide)⟩ := Fin.ext (by show d.val = l.val % 16; omega)
  rw [hd', he']
  unfold ops1; after_reads_at

theorem host_packV (r : Fin 20000) (k : Fin 8) (d : Fin 16) (l : Fin 128) (hl : l.val = 16 * k.val + d.val) (e : Fin 160000) (he : e.val = 8 * r.val + k.val) :
    (StableHlo.after ops1 Y (main_v26 : DevRef τ sig) : Vec Ideal S20000x128 .f32) (ix2 r l)
      = (Y (main_v24_1 : DevRef τ sig) : Vec Ideal S160000x16 .f32) (ix2 e d) := by
  have he' : e = ⟨r.val * 8 + l.val / 16, by have := r.isLt; have := l.isLt; clear he; omega⟩ := Fin.ext (by simp only [he]; omega)
  have hd' : d = ⟨l.val % 16, Nat.mod_lt _ (by decide)⟩ := Fin.ext (by show d.val = l.val % 16; omega)
  rw [hd', he']
  unfold ops1; after_reads_at

theorem host_bias1 (i : Fin 256) : (StableHlo.after ops1 Y (main_v27 : DevRef τ sig) : Vec Ideal S1x256 .f32) (ix2 0 i)
    = (Y (main_arg8 : DevRef τ sig) : Vec Ideal S256 .f32) (ix1 i) := by
  unfold ops1; after_reads_at
theorem host_bias2 (o : Fin 10) : (StableHlo.after ops1 Y (main_v28 : DevRef τ sig) : Vec Ideal S1x10 .f32) (ix2 0 o)
    = (Y (main_arg10 : DevRef τ sig) : Vec Ideal S10 .f32) (ix1 o) := by
  unfold ops1; after_reads_at

end Cert.Proof.Kern
-- ==== Proof.Blocks.lean ====
/-
  The blocks the two TensorCore passes read, at an index: each an element of its array, at the row that the grid point
  and the row within the block name.
-/
module

public import proofs.«01_k».proof.Proof.Launch
public import Idealize.ShloMosaic.Lib.Pipeline.ValueKit
public import Idealize.ShloMosaic.Lib.Pointwise

@[expose] public section

set_option maxRecDepth 16384

noncomputable section

namespace Cert.Proof.Kern

open Cert.KernelIdeal Cert.KernelIdeal.Gen
open Idealize.ShloMosaic Idealize.ShloMosaic.TcCoe
open Idealize.ShloMosaic.SparseCore.Cfg (HIx)

variable {F : FTy → Type} [FloatOps F]
variable (c : Dev nD) (V : (b : Ref sig .tc) → Buf (Elt F) ((c.tc : Thread nD τ).loc b))

theorem node_index : ∀ t : Fin grid0.N, win0_0.index t = ![t.val, 0] ∧ win0_1.index t = ![t.val, 0] ∧ win0_2.index t = ![t.val, 0, 0]
    ∧ win0_3.index t = ![0, 0] ∧ win0_4.index t = ![0, 0] ∧ win0_5.index t = ![0, 0] ∧ win0_6.index t = ![t.val, 0] := by decide +kernel

theorem nodeBlk_0 (t : Fin cfg0.N) (r : Fin 1000) (k : Fin 128) (q : Fin 10000) (hq : q.val = 1000 * t.val + r.val) :
    (nodeBlk c V 0 t : Vec F S1000x128 .f32) (ix2 r k) = (V main_arg0 : Vec F S10000x128 .f32) (ix2 q k) := by
  unfold nodeBlk; blk_ext [(node_index t).1]
theorem nodeBlk_1 (t : Fin cfg0.N) (r : Fin 1000) (q : Fin 10000) (hq : q.val = 1000 * t.val + r.val) :
    (nodeBlk c V 1 t : Vec F S1000x1 .f32) (ix2 r 0) = (V main_v16 : Vec F S10000x1 .f32) (ix2 q 0) := by
  unfold nodeBlk; blk_ext [(node_index t).2.1]
theorem nodeBlk_2 (t : Fin cfg0.N) (r : Fin 1000) (q : Fin 10) (hq : q.val = t.val) :
    (nodeBlk c V 2 t : Vec F S1x1x1000 .i32) (ix3 0 0 r) = (V main_v17 : Vec F S10x1x1000 .i32) (ix3 q 0 r) := by
  unfold nodeBlk; blk_ext [(node_index t).2.2.1]
theorem nodeBlk_3 (t : Fin cfg0.N) (k : Fin 128) (d : Fin 16) :
    (nodeBlk c V 3 t : Vec F S128x16 .f32) (ix2 k d) = (V main_arg5 : Vec F S128x16 .f32) (ix2 k d) := by
  unfold nodeBlk; blk_ext [(node_index t).2.2.2.1]
theorem nodeBlk_4 (t : Fin cfg0.N) (f : Fin 256) :
    (nodeBlk c V 4 t : Vec F S1x256 .f32) (ix2 0 f) = (V main_v15 : Vec F S1x256 .f32) (ix2 0 f) := by
  unfold nodeBlk; blk_ext [(node_index t).2.2.2.2.1]
theorem nodeBlk_5 (t : Fin cfg0.N) (d : Fin 16) (f : Fin 256) :
    (nodeBlk c V 5 t : Vec F S16x256 .f32) (ix2 d f) = (V main_v10 : Vec F S16x256 .f32) (ix2 d f) := by
  unfold nodeBlk; blk_ext [(node_index t).2.2.2.2.2.1]

variable (O : CellTallies nD τ sig (HIx 1)) (W : Set (SemLoc sig × HIx 1))

/-- The features the node pass leaves, row by row; -/
theorem node_arr_6 (G : Vec F S10000x16 .f32)
    (hG : ∀ (t : Fin cfg0.N) (r : Fin 1000) (d : Fin 16) (q : Fin 10000), q.val = 1000 * t.val + r.val →
      k0_pay3 (nodeBlk c V 0 t) (nodeBlk c V 1 t) (nodeBlk c V 3 t) (ix2 r d) = G (ix2 q d)) :
    (nodeDat c V O W).arrAt 6 cfg0.N = G := by
  refine (nodeDat c V O W).arrAt_eq_of_covers 6 _ (by decide +kernel) fun t hf y => ?_
  blk_simp
  rw [node_after_6]
  have ht : t.val < 10 := lt_of_lt_of_eq t.isLt (show cfg0.N = 10 from N_0)
  obtain ⟨r, d, rfl⟩ : ∃ (r : Fin 1000) (d : Fin 16), y = (ix2 r d : S1000x16.Idx) := ⟨y 0, y 1, eq_ix2 _⟩
  refine (hG t r d ⟨1000 * t.val + r.val, by omega⟩ rfl).trans ?_
  blk_ext [(node_index t).2.2.2.2.2.2]

/-- the sums and the counts it leaves, after the last point. -/
theorem node_arr_7 : (nodeDat c V O W).arrAt 7 cfg0.N = (nodeFold c V 10).1 := by
  refine (nodeDat c V O W).arrAt_eq_of_after_last 7 (nodePt 9) (by decide +kernel) _ fun j => ?_
  blk_simp
  rw [node_after_7]
  rfl
theorem node_arr_8 : (nodeDat c V O W).arrAt 8 cfg0.N = (nodeFold c V 10).2 := by
  refine (nodeDat c V O W).arrAt_eq_of_after_last 8 (nodePt 9) (by decide +kernel) _ fun j => ?_
  blk_simp
  rw [node_after_8]
  rfl

/-- The two results the edge pass leaves, after the last point. -/
theorem edge_arr_12 : (edgeDat c V O W).arrAt 12 cfg2.N = k2_pay3 (edgeBlk c V 5 (edgePt 9)) (edgeFold c V 10) (edgeBlk c V 8 (edgePt 9))
    (edgeBlk c V 9 (edgePt 9)) (edgeBlk c V 10 (edgePt 9)) (edgeBlk c V 11 (edgePt 9)) := by
  refine (edgeDat c V O W).arrAt_eq_of_after_last 12 (edgePt 9) (by decide +kernel) _ fun j => ?_
  blk_simp
  rw [edge_after_12]
  rfl
theorem edge_arr_13 : (edgeDat c V O W).arrAt 13 cfg2.N = k2_pay2 (edgeBlk c V 5 (edgePt 9)) (edgeFold c V 10) := by
  refine (edgeDat c V O W).arrAt_eq_of_after_last 13 (edgePt 9) (by decide +kernel) _ fun j => ?_
  blk_simp
  rw [edge_after_13]
  rfl

theorem edge_index : ∀ t : Fin grid2.N, win2_0.index t = ![t.val, 0] ∧ win2_1.index t = ![t.val, 0] ∧ win2_2.index t = ![t.val, 0, 0]
    ∧ win2_3.index t = ![t.val, 0, 0] ∧ win2_4.index t = ![0, 0] ∧ win2_5.index t = ![0, 0] ∧ win2_6.index t = ![0, 0] ∧ win2_7.index t = ![0, 0]
    ∧ win2_8.index t = ![0, 0] ∧ win2_9.index t = ![0, 0] ∧ win2_10.index t = ![0, 0] ∧ win2_11.index t = ![0, 0] := by decide +kernel

theorem edgeBlk_0 (t : Fin cfg2.N) (r : Fin 2000) (l : Fin 128) (q : Fin 20000) (hq : q.val = 2000 * t.val + r.val) :
    (edgeBlk c V 0 t : Vec F S2000x128 .f32) (ix2 r l) = (V main_v25 : Vec F S20000x128 .f32) (ix2 q l) := by
  unfold edgeBlk; blk_ext [(edge_index t).1]
theorem edgeBlk_1 (t : Fin cfg2.N) (r : Fin 2000) (l : Fin 128) (q : Fin 20000) (hq : q.val = 2000 * t.val + r.val) :
    (edgeBlk c V 1 t : Vec F S2000x128 .f32) (ix2 r l) = (V main_v26 : Vec F S20000x128 .f32) (ix2 q l) := by
  unfold edgeBlk; blk_ext [(edge_index t).2.1]
theorem edgeBlk_2 (t : Fin cfg2.N) (r : Fin 2000) (k : Fin 8) (q : Fin 10) (hq : q.val = t.val) :
    (edgeBlk c V 2 t : Vec F S1x2000x8 .f32) (ix3 0 r k) = (V main_v18 : Vec F S10x2000x8 .f32) (ix3 q r k) := by
  unfold edgeBlk; blk_ext [(edge_index t).2.2.1]
theorem edgeBlk_3 (t : Fin cfg2.N) (r : Fin 2000) (k : Fin 8) (q : Fin 10) (hq : q.val = t.val) :
    (edgeBlk c V 3 t : Vec F S1x8x2000 .i32) (ix3 0 k r) = (V main_v22 : Vec F S10x8x2000 .i32) (ix3 q k r) := by
  unfold edgeBlk; blk_ext [(edge_index t).2.2.2.1]
theorem edgeBlk_4 (t : Fin cfg2.N) (g : Fin 64) :
    (edgeBlk c V 4 t : Vec F S64x1 .i32) (ix2 g 0) = (V main_v23_2 : Vec F S64x1 .i32) (ix2 g 0) := by
  unfold edgeBlk; blk_ext [(edge_index t).2.2.2.2.1]
theorem edgeBlk_5 (t : Fin cfg2.N) (g : Fin 64) (f : Fin 256) :
    (edgeBlk c V 5 t : Vec F S64x256 .f32) (ix2 g f) = (V main_v23_1 : Vec F S64x256 .f32) (ix2 g f) := by
  unfold edgeBlk; blk_ext [(edge_index t).2.2.2.2.2.1]
theorem edgeBlk_6 (t : Fin cfg2.N) (f : Fin 256) :
    (edgeBlk c V 6 t : Vec F S1x256 .f32) (ix2 0 f) = (V main_v15 : Vec F S1x256 .f32) (ix2 0 f) := by
  unfold edgeBlk; blk_ext [(edge_index t).2.2.2.2.2.2.1]
theorem edgeBlk_7 (t : Fin cfg2.N) (d : Fin 16) (f : Fin 256) :
    (edgeBlk c V 7 t : Vec F S16x256 .f32) (ix2 d f) = (V main_v10 : Vec F S16x256 .f32) (ix2 d f) := by
  unfold edgeBlk; blk_ext [(edge_index t).2.2.2.2.2.2.2.1]
theorem edgeBlk_8 (t : Fin cfg2.N) (i f : Fin 256) :
    (edgeBlk c V 8 t : Vec F S256x256 .f32) (ix2 i f) = (V main_arg7 : Vec F S256x256 .f32) (ix2 i f) := by
  unfold edgeBlk; blk_ext [(edge_index t).2.2.2.2.2.2.2.2.1]
theorem edgeBlk_9 (t : Fin cfg2.N) (i : Fin 256) :
    (edgeBlk c V 9 t : Vec F S1x256 .f32) (ix2 0 i) = (V main_v27 : Vec F S1x256 .f32) (ix2 0 i) := by
  unfold edgeBlk; blk_ext [(edge_index t).2.2.2.2.2.2.2.2.2.1]
theorem edgeBlk_10 (t : Fin cfg2.N) (o : Fin 10) (i : Fin 256) :
    (edgeBlk c V 10 t : Vec F S10x256 .f32) (ix2 o i) = (V main_arg9 : Vec F S10x256 .f32) (ix2 o i) := by
  unfold edgeBlk; blk_ext [(edge_index t).2.2.2.2.2.2.2.2.2.2.1]
theorem edgeBlk_11 (t : Fin cfg2.N) (o : Fin 10) :
    (edgeBlk c V 11 t : Vec F S1x10 .f32) (ix2 0 o) = (V main_v28 : Vec F S1x10 .f32) (ix2 0 o) := by
  unfold edgeBlk; blk_ext [(edge_index t).2.2.2.2.2.2.2.2.2.2.2]

end Cert.Proof.Kern
-- ==== Proof.NodeValue.lean ====
/-
  The node pass over the extended reals: its features are the node features, its sums each graph's sum over its nodes,
  its counts the number of nodes in the graphs before.
-/
module

public import proofs.«01_k».proof.Proof.Blocks
public import proofs.«01_k».proof.Proof.Spec
public import Idealize.ShloMosaic.Lib.IndicatorCount
public import Idealize.ShloMosaic.Lib.Tactic.WordOmega

@[expose] public section

set_option maxRecDepth 16384

noncomputable section

namespace Cert.Proof.Kern

open Cert.KernelIdeal Cert.KernelIdeal.Gen
open Idealize.ShloMosaic Idealize.ShloMosaic.TcCoe

/-! ## One step at an index -/

theorem feature_apply (x0 : Vec Ideal S1000x128 .f32) (x1 : Vec Ideal S1000x1 .f32) (x3 : Vec Ideal S128x16 .f32) (r : Fin 1000) (d : Fin 16) :
    k0_pay3 x0 x1 x3 (ix2 r d) = ∑ k : Fin 128, (x0 (ix2 r k) * x1 (ix2 r 0) * x3 (ix2 k d) : EReal) := by
  pointwise [k0_pay3]

/-- A row's sigmoid at a column, as the pass computes it. -/
def rowSig (x0 : Vec Ideal S1000x128 .f32) (x1 : Vec Ideal S1000x1 .f32) (x3 : Vec Ideal S128x16 .f32) (x4 : Vec Ideal S1x256 .f32)
    (x5 : Vec Ideal S16x256 .f32) (r : Fin 1000) (f : Fin 256) : EReal :=
  Ideal.ofBits .f32 0x3F000000#32 + Ideal.ofBits .f32 0x3F000000#32 *
    Ideal.tanh (x4 (ix2 0 f) - ∑ d : Fin 16, (k0_pay3 x0 x1 x3 (ix2 r d) * x5 (ix2 d f) : EReal))

theorem nodeAcc_apply (x0 x1 x2 x3 x4 x5 a) (g : Fin 64) (f : Fin 256) :
    nodeAcc (F := Ideal) x0 x1 x2 x3 x4 x5 a (ix2 g f) = (a (ix2 g f) : EReal) + ∑ r : Fin 1000,
      Scalar.select (IntOp.cmpi CmpIPredicate.eq (x2 (ix3 0 0 r)) (BitVec.ofNat 32 g.val))
        (rowSig x0 x1 x3 x4 x5 r f) (0 : EReal) := by
  unfold rowSig
  pointwise [nodeAcc, k0_pay1, k0_pay4, k0_pay6, k0_pay5]

theorem nodeStarts_apply (x2 s) (g : Fin 64) :
    nodeStarts (F := Ideal) x2 s (ix2 g 0) = IntOp.addi (s (ix2 g 0)) (Finset.fold IntOp.addi (0#32)
      (fun r : Fin 1000 => BitVec.setWidth 32 (IntOp.cmpi CmpIPredicate.slt (x2 (ix3 0 0 r)) (BitVec.ofNat 32 g.val))) Finset.univ) := by
  pointwise [nodeStarts, k0_pay2, k0_pay5]

theorem select_eq_word (w : BitVec 32) (n : ℕ) (hn : n < 64) (x : EReal) :
    Scalar.select (IntOp.cmpi CmpIPredicate.eq w (BitVec.ofNat 32 n)) x (0 : EReal) = if w.toNat = n then x else 0 := by
  have e : (w.toNat = n) ↔ w = BitVec.ofNat 32 n := by
    rw [← BitVec.toNat_inj, BitVec.toNat_ofNat, Nat.mod_eq_of_lt (by omega)]
  rw [if_congr e rfl rfl]
  by_cases h : w = BitVec.ofNat 32 n
  · rw [if_pos h, ← h]; simp [IntOp.cmpi, Scalar.select]
  · rw [if_neg h];
    have hb : (w == BitVec.ofNat 32 n) = false := by simpa using h
    show Scalar.select (BitVec.ofBool (w == BitVec.ofNat 32 n)) x (0 : EReal) = 0
    rw [hb]; rfl

theorem slt_word (w : BitVec 32) (n : ℕ) (hw : w.toNat < 64) (hn : n < 64) :
    IntOp.cmpi CmpIPredicate.slt w (BitVec.ofNat 32 n) = 1#1 ↔ w.toNat < n := by
  word_omega

/-! ## The whole pass -/

section Pass

variable (A : Args) (c : Dev nD) (V : (b : Ref sig .tc) → Buf (Elt Ideal) ((c.tc : Thread nD τ).loc b))

theorem nodeFold_succ_sum (n : ℕ) : (nodeFold c V (n + 1)).1 = nodeAcc (nodeBlk c V 0 (nodePt n)) (nodeBlk c V 1 (nodePt n)) (nodeBlk c V 2 (nodePt n))
    (nodeBlk c V 3 (nodePt n)) (nodeBlk c V 4 (nodePt n)) (nodeBlk c V 5 (nodePt n)) (nodeFold c V n).1 := rfl
theorem nodeFold_succ_count (n : ℕ) : (nodeFold c V (n + 1)).2 = nodeStarts (nodeBlk c V 2 (nodePt n)) (nodeFold c V n).2 := rfl

/-- What the pass finds in its arrays, said in the program's arguments. -/
structure NodeIn : Prop where
  x : ∀ n k, (V main_arg0 : Vec Ideal S10000x128 .f32) (ix2 n k) = A.X (ix2 n k)
  w : ∀ n, (V main_v16 : Vec Ideal S10000x1 .f32) (ix2 n 0) = A.W (ix1 n)
  b : ∀ (t : Fin 10) (r : Fin 1000) (n : Fin 10000), n.val = 1000 * t.val + r.val →
    (V main_v17 : Vec Ideal S10x1x1000 .i32) (ix3 t 0 r) = A.B (ix1 n)
  v : ∀ k d, (V main_arg5 : Vec Ideal S128x16 .f32) (ix2 k d) = A.V (ix2 k d)
  l : ∀ f, (V main_v15 : Vec Ideal S1x256 .f32) (ix2 0 f) = ((50 : ℝ) : EReal) * A.L (ix1 (stepOf f))
  s : ∀ (d : Fin 16) (f : Fin 256), (V main_v10 : Vec Ideal S16x256 .f32) (ix2 d f) = if d.val = f.val % 16 then ((50 : ℝ) : EReal) else 0

variable {A c V} (hV : NodeIn A c V) (hA : InRange A.E A.B)
include hV

theorem node_feature (t : Fin cfg0.N) (r : Fin 1000) (d : Fin 16) (q : Fin 10000) (hq : q.val = 1000 * t.val + r.val) :
    k0_pay3 (nodeBlk c V 0 t) (nodeBlk c V 1 t) (nodeBlk c V 3 t) (ix2 r d) = A.nodeH q d := by
  rw [feature_apply]
  refine Finset.sum_congr rfl fun k _ => ?_
  rw [nodeBlk_0 c V t r k q hq, nodeBlk_1 c V t r q hq, nodeBlk_3 c V t k d, hV.x, hV.w, hV.v]

/-- The array of features after the pass. -/
theorem node_features (O W) (n : Fin 10000) (d : Fin 16) :
    ((nodeDat c V O W).arrAt 6 cfg0.N : Vec Ideal S10000x16 .f32) (ix2 n d) = A.nodeH n d := by
  rw [node_arr_6 c V O W (fun j : S10000x16.Idx => A.nodeH (j 0) (j 1)) fun t r d q hq => node_feature hV t r d q hq]
  rfl

theorem node_sig (t : Fin cfg0.N) (r : Fin 1000) (f : Fin 256) (q : Fin 10000) (hq : q.val = 1000 * t.val + r.val) :
    rowSig (nodeBlk c V 0 t) (nodeBlk c V 1 t) (nodeBlk c V 3 t) (nodeBlk c V 4 t) (nodeBlk c V 5 t) r f
      = ((A.nodeSg q f : ℝ) : EReal) := by
  unfold rowSig
  rw [nodeBlk_4 c V t f, hV.l, word_half, Finset.sum_congr rfl fun d _ => show (_ : EReal) = A.nodeH q d * (if d.val = f.val % 16 then ((50 : ℝ) : EReal) else 0) by
    rw [node_feature hV t r d q hq, nodeBlk_5 c V t d f, hV.s], scale_row, tanh_sg_sub]
  rfl

/-- The sums after `n` points. -/
theorem nodeFold_sum (n : ℕ) (g : Fin 64) (f : Fin 256) :
    (nodeFold c V n).1 (ix2 g f) = ((∑ t ∈ Finset.range n, ∑ r : Fin 1000,
      (if A.graphOf ⟨1000 * (t % 10) + r.val, by omega⟩ = g.val then A.nodeSg ⟨1000 * (t % 10) + r.val, by omega⟩ f else 0) : ℝ) : EReal) := by
  induction n with
  | zero => rw [Finset.sum_range_zero]; show k0_pay7 (F := Ideal) (ix2 g f) = _; pointwise [k0_pay7]; exact EReal.coe_zero.symm
  | succ n ih =>
    rw [Finset.sum_range_succ, EReal.coe_add, ← ih]
    rw [nodeFold_succ_sum, nodeAcc_apply, coe_sum]
    refine congrArg _ (Finset.sum_congr rfl fun r _ => ?_)
    have hb : (nodeBlk c V 2 (nodePt n) : Vec Ideal S1x1x1000 .i32) (ix3 0 0 r) = A.B (ix1 ⟨1000 * (n % 10) + r.val, by omega⟩) :=
      (nodeBlk_2 c V (nodePt n) r ⟨n % 10, by omega⟩ rfl).trans (hV.b _ r _ rfl)
    rw [node_sig hV (nodePt n) r f ⟨1000 * (n % 10) + r.val, by omega⟩ rfl, hb, select_eq_word _ _ g.isLt]
    show (if A.graphOf ⟨1000 * (n % 10) + r.val, by omega⟩ = g.val then _ else _) = _
    split <;> simp

theorem node_sums (O W) (g : Fin 64) (f : Fin 256) :
    ((nodeDat c V O W).arrAt 7 cfg0.N : Vec Ideal S64x256 .f32) (ix2 g f) = ((A.nodeTot g.val f : ℝ) : EReal) := by
  rw [node_arr_7, nodeFold_sum hV]
  refine congrArg _ ?_
  rw [Finset.sum_range]
  unfold Args.nodeTot
  rw [← sum_nodes fun n => if A.graphOf n = g.val then A.nodeSg n f else 0]
  refine Finset.sum_congr rfl fun t _ => Finset.sum_congr rfl fun r _ => ?_
  have ht : t.val % 10 = t.val := Nat.mod_eq_of_lt t.isLt
  simp only [ht]

include hA

/-- The counts after `n` points. -/
theorem nodeFold_count (n : ℕ) (g : Fin 64) :
    (nodeFold c V n).2 (ix2 g 0) = BitVec.ofNat 32 (∑ t ∈ Finset.range n, ∑ r : Fin 1000,
      (if A.graphOf ⟨1000 * (t % 10) + r.val, by omega⟩ < g.val then 1 else 0)) := by
  induction n with
  | zero => rw [Finset.sum_range_zero]; rfl
  | succ n ih =>
    rw [Finset.sum_range_succ, BitVec.ofNat_add, ← ih]
    rw [nodeFold_succ_count, nodeStarts_apply, IndicatorCount.fold_addi_setWidth_eq_card, Finset.card_filter]
    show _ + _ = _ + _
    refine congrArg _ (congrArg _ (Finset.sum_congr rfl fun r _ => if_congr ?_ rfl rfl))
    have hb : (nodeBlk c V 2 (nodePt n) : Vec Ideal S1x1x1000 .i32) (ix3 0 0 r) = A.B (ix1 ⟨1000 * (n % 10) + r.val, by omega⟩) :=
      (nodeBlk_2 c V (nodePt n) r ⟨n % 10, by omega⟩ rfl).trans (hV.b _ r _ rfl)
    rw [hb]
    exact slt_word _ _ (hA.graph _) g.isLt

theorem node_counts (O W) (g : Fin 64) :
    ((nodeDat c V O W).arrAt 8 cfg0.N : IVec S64x1 32) (ix2 g 0) = BitVec.ofNat 32 (A.before g.val) := by
  rw [node_arr_8, nodeFold_count hV hA]
  refine congrArg _ ?_
  rw [Finset.sum_range]
  unfold Args.before
  rw [Finset.card_filter, ← sum_nodes fun n => if A.graphOf n < g.val then 1 else 0]
  refine Finset.sum_congr rfl fun t _ => Finset.sum_congr rfl fun r _ => ?_
  have ht : t.val % 10 = t.val := Nat.mod_eq_of_lt t.isLt
  simp only [ht]

end Pass

end Cert.Proof.Kern
-- ==== Proof.EdgeValue.lean ====
/-
  The edge pass over the extended reals: its sums are each graph's sum over the edges whose source it holds, and its
  results the difference from the node sums, flat and through the two layers.
-/
module

public import proofs.«01_k».proof.Proof.Blocks
public import proofs.«01_k».proof.Proof.Spec
public import Idealize.ShloMosaic.Lib.Pointwise
public import Idealize.ShloMosaic.Lib.Tactic.WordOmega

@[expose] public section

set_option maxRecDepth 16384

noncomputable section

namespace Cert.Proof.Kern

open Cert.KernelIdeal Cert.KernelIdeal.Gen
open Idealize.ShloMosaic Idealize.ShloMosaic.TcCoe

section Step

variable (x0 x1 : Vec Ideal S2000x128 .f32) (x2 : Vec Ideal S1x2000x8 .f32) (x3 : Vec Ideal S1x8x2000 .i32) (x4 : Vec Ideal S64x1 .i32)
  (x6 : Vec Ideal S1x256 .f32) (x7 : Vec Ideal S16x256 .f32)

/-- One packed edge's sigmoid at a column: row `r`, lane block `k`. -/
def laneSig (k : Fin 8) (r : Fin 2000) (f : Fin 256) : EReal :=
  Ideal.ofBits .f32 0x3F000000#32 + Ideal.ofBits .f32 0x3F000000#32 *
    Ideal.tanh (x6 (ix2 0 f) - (∑ d : Fin 16, (max (x0 (ix2 r ⟨16 * k.val + d.val, by omega⟩)) (x1 (ix2 r ⟨16 * k.val + d.val, by omega⟩)) * x7 (ix2 d f) : EReal)) * x2 (ix3 0 r k))

/-- The sigmoids of the edges, in lane block `k`, whose source comes at or after the start of graph `g`. -/
def laneSum (k : Fin 8) (g : Fin 64) (f : Fin 256) : EReal :=
  ∑ r : Fin 2000, Scalar.select (IntOp.cmpi .sge (x3 (ix3 0 k r)) (x4 (ix2 g 0))) 1 0 * laneSig x0 x1 x2 x6 x7 k r f

theorem edgeSumA_apply (g : Fin 64) (f : Fin 256) :
   edgeSumA (F := Ideal) x0 x1 x2 x3 x4 x6 x7 (ix2 g f) = laneSum x0 x1 x2 x3 x4 x6 x7 0 g f + laneSum x0 x1 x2 x3 x4 x6 x7 1 g f := by
  unfold laneSum laneSig
  pointwise [edgeSumA, k2_pay5, k2_pay6, k2_pay7, k2_pay8, k2_pay9, k2_pay10, k2_pay11, k2_pay12]

theorem edgeSumB_apply (g : Fin 64) (f : Fin 256) :
   edgeSumB (F := Ideal) x0 x1 x2 x3 x4 x6 x7 (ix2 g f) = edgeSumA (F := Ideal) x0 x1 x2 x3 x4 x6 x7 (ix2 g f)
      + laneSum x0 x1 x2 x3 x4 x6 x7 2 g f + laneSum x0 x1 x2 x3 x4 x6 x7 3 g f := by
  unfold laneSum laneSig
  pointwise [edgeSumB, k2_pay5, k2_pay6, k2_pay7, k2_pay8, k2_pay13, k2_pay14, k2_pay15]

theorem edgeSumC_apply (g : Fin 64) (f : Fin 256) :
   edgeSumC (F := Ideal) x0 x1 x2 x3 x4 x6 x7 (ix2 g f) = edgeSumB (F := Ideal) x0 x1 x2 x3 x4 x6 x7 (ix2 g f)
      + laneSum x0 x1 x2 x3 x4 x6 x7 4 g f := by
  unfold laneSum laneSig
  pointwise [edgeSumC, k2_pay5, k2_pay6, k2_pay7, k2_pay8, k2_pay16]

theorem edgeSumD_apply (g : Fin 64) (f : Fin 256) :
   edgeSumD (F := Ideal) x0 x1 x2 x3 x4 x6 x7 (ix2 g f) = edgeSumC (F := Ideal) x0 x1 x2 x3 x4 x6 x7 (ix2 g f)
      + laneSum x0 x1 x2 x3 x4 x6 x7 5 g f + laneSum x0 x1 x2 x3 x4 x6 x7 6 g f := by
  unfold laneSum laneSig
  pointwise [edgeSumD, k2_pay5, k2_pay6, k2_pay7, k2_pay8, k2_pay17, k2_pay18]

/-- The eight lane blocks together. -/
def stepSum (g : Fin 64) (f : Fin 256) : EReal := ∑ k : Fin 8, laneSum x0 x1 x2 x3 x4 x6 x7 k g f

theorem stepSum_eq (g : Fin 64) (f : Fin 256) : stepSum x0 x1 x2 x3 x4 x6 x7 g f
    = edgeSumD (F := Ideal) x0 x1 x2 x3 x4 x6 x7 (ix2 g f) + laneSum x0 x1 x2 x3 x4 x6 x7 7 g f := by
  rw [edgeSumD_apply, edgeSumC_apply, edgeSumB_apply, edgeSumA_apply, stepSum, Fin.sum_univ_eight]

theorem edgeAcc_sums (a : Vec Ideal S64x256 .f32) (g : Fin 64) (f : Fin 256) :
   edgeAcc (F := Ideal) x0 x1 x2 x3 x4 x6 x7 a (ix2 g f) = (a (ix2 g f) : EReal)
      + ((edgeSumD (F := Ideal) x0 x1 x2 x3 x4 x6 x7 (ix2 g f) + laneSum x0 x1 x2 x3 x4 x6 x7 7 g f)
          - if h : g.val < 63 then edgeSumD (F := Ideal) x0 x1 x2 x3 x4 x6 x7 (ix2 ⟨1 + g.val, by omega⟩ f)
              + laneSum x0 x1 x2 x3 x4 x6 x7 7 ⟨1 + g.val, by omega⟩ f else 0) := by
  unfold laneSum laneSig
  pointwise [edgeAcc, k2_pay1, k2_pay5, k2_pay6, k2_pay7, k2_pay8, k2_pay19, k2_pay20]

theorem edgeAcc_apply (a : Vec Ideal S64x256 .f32) (g : Fin 64) (f : Fin 256) :
   edgeAcc (F := Ideal) x0 x1 x2 x3 x4 x6 x7 a (ix2 g f) = (a (ix2 g f) : EReal)
      + (stepSum x0 x1 x2 x3 x4 x6 x7 g f
          - if h : g.val < 63 then stepSum x0 x1 x2 x3 x4 x6 x7 ⟨1 + g.val, by omega⟩ f else 0) := by
  rw [edgeAcc_sums]
  simp only [stepSum_eq]

end Step

/-! ## The whole pass -/

theorem select_sge_word (w : BitVec 32) (n : ℕ) (hw : w.toNat < 10000) (hn : n ≤ 10000) (x : EReal) :
    Scalar.select (IntOp.cmpi CmpIPredicate.sge w (BitVec.ofNat 32 n)) (1 : EReal) 0 * x = if n ≤ w.toNat then x else 0 := by
  have e : IntOp.cmpi CmpIPredicate.sge w (BitVec.ofNat 32 n) = 1#1 ↔ n ≤ w.toNat := by word_omega
  by_cases h : n ≤ w.toNat
  · rw [e.2 h, if_pos h]; exact one_mul x
  · rw [(BitVec.eq_zero_or_eq_one _).resolve_right fun q => h (e.1 q), if_neg h]; exact zero_mul x

section Pass

variable (A : Args) (c : Dev nD) (V : (b : Ref sig .tc) → Buf (Elt Ideal) ((c.tc : Thread nD τ).loc b))

/-- What the pass finds in its arrays, said in the program's arguments. -/
structure EdgeIn : Prop where
  u : ∀ (r : Fin 20000) (k : Fin 8) (d : Fin 16) (l : Fin 128) (e : Fin 160000), l.val = 16 * k.val + d.val → e.val = 8 * r.val + k.val →
    (V main_v25 : Vec Ideal S20000x128 .f32) (ix2 r l) = A.nodeH (A.src e) d
  v : ∀ (r : Fin 20000) (k : Fin 8) (d : Fin 16) (l : Fin 128) (e : Fin 160000), l.val = 16 * k.val + d.val → e.val = 8 * r.val + k.val →
    (V main_v26 : Vec Ideal S20000x128 .f32) (ix2 r l) = A.nodeH (A.dst e) d
  w : ∀ (t : Fin 10) (r : Fin 2000) (k : Fin 8) (e : Fin 160000), e.val = 16000 * t.val + 8 * r.val + k.val →
    (V main_v18 : Vec Ideal S10x2000x8 .f32) (ix3 t r k) = A.EW (ix1 e)
  s : ∀ (t : Fin 10) (r : Fin 2000) (k : Fin 8) (e : Fin 160000), e.val = 16000 * t.val + 8 * r.val + k.val →
    (V main_v22 : Vec Ideal S10x8x2000 .i32) (ix3 t k r) = A.E (ix2 0 e)
  start : ∀ g : Fin 64, (V main_v23_2 : Vec Ideal S64x1 .i32) (ix2 g 0) = BitVec.ofNat 32 (A.before g.val)
  sum : ∀ (g : Fin 64) f, (V main_v23_1 : Vec Ideal S64x256 .f32) (ix2 g f) = ((A.nodeTot g.val f : ℝ) : EReal)
  l : ∀ f, (V main_v15 : Vec Ideal S1x256 .f32) (ix2 0 f) = ((50 : ℝ) : EReal) * A.L (ix1 (stepOf f))
  m : ∀ (d : Fin 16) (f : Fin 256), (V main_v10 : Vec Ideal S16x256 .f32) (ix2 d f) = if d.val = f.val % 16 then ((50 : ℝ) : EReal) else 0

variable {A c V} (hV : EdgeIn A c V) (hA : InRange A.E A.B)

/-- The edge in row `r`, lane block `k` of the `t`-th block of packed edges. -/
def edgeOfBlock (t : ℕ) (ht : t < 10) (k : Fin 8) (r : Fin 2000) : Fin 160000 := ⟨16000 * t + 8 * r.val + k.val, by omega⟩

/-- The sigmoids of all edges whose source comes at or after the start of graph `g`. -/
def fromStart (A : Args) (g : ℕ) (f : Fin 256) (e : Fin 160000) : ℝ := if A.before g ≤ (A.src e).val then A.edgeSg e f else 0

include hV

theorem lane_sig (t : Fin cfg2.N) (ht : t.val < 10) (k : Fin 8) (r : Fin 2000) (f : Fin 256) :
    laneSig (edgeBlk c V 0 t) (edgeBlk c V 1 t) (edgeBlk c V 2 t) (edgeBlk c V 6 t) (edgeBlk c V 7 t) k r f
      = ((A.edgeSg (edgeOfBlock t.val ht k r) f : ℝ) : EReal) := by
  have hq : (⟨2000 * t.val + r.val, by omega⟩ : Fin 20000).val = 2000 * t.val + r.val := rfl
  have he : (edgeOfBlock t.val ht k r).val = 8 * (⟨2000 * t.val + r.val, by omega⟩ : Fin 20000).val + k.val := by
    show 16000 * t.val + 8 * r.val + k.val = 8 * (2000 * t.val + r.val) + k.val; omega
  unfold laneSig
  rw [edgeBlk_6 c V t f, hV.l, word_half, Finset.sum_congr rfl fun d _ => show (_ : EReal)
      = max (A.nodeH (A.src (edgeOfBlock t.val ht k r)) d) (A.nodeH (A.dst (edgeOfBlock t.val ht k r)) d) * (if d.val = f.val % 16 then ((50 : ℝ) : EReal) else 0) by
    rw [edgeBlk_0 c V t r _ _ hq, edgeBlk_1 c V t r _ _ hq, edgeBlk_7 c V t d f, hV.m, hV.u _ k d _ _ rfl he, hV.v _ k d _ _ rfl he],
    scale_row (fun d => max (A.nodeH (A.src (edgeOfBlock t.val ht k r)) d) (A.nodeH (A.dst (edgeOfBlock t.val ht k r)) d)),
    edgeBlk_2 c V t r k ⟨t.val, ht⟩ rfl, hV.w ⟨t.val, ht⟩ r k (edgeOfBlock t.val ht k r) rfl, mul_assoc, tanh_sg_sub]
  rfl

include hA

theorem lane_sum (t : Fin cfg2.N) (ht : t.val < 10) (k : Fin 8) (g : Fin 64) (f : Fin 256) :
    laneSum (edgeBlk c V 0 t) (edgeBlk c V 1 t) (edgeBlk c V 2 t) (edgeBlk c V 3 t) (edgeBlk c V 4 t) (edgeBlk c V 6 t) (edgeBlk c V 7 t) k g f
      = ((∑ r : Fin 2000, fromStart A g.val f (edgeOfBlock t.val ht k r) : ℝ) : EReal) := by
  unfold laneSum
  rw [coe_sum]
  refine Finset.sum_congr rfl fun r _ => ?_
  have hw := hA.node (ix2 0 (edgeOfBlock t.val ht k r))
  rw [lane_sig hV t ht, edgeBlk_3 c V t r k ⟨t.val, ht⟩ rfl, hV.s ⟨t.val, ht⟩ r k (edgeOfBlock t.val ht k r) rfl, edgeBlk_4 c V t g, hV.start,
    select_sge_word _ _ hw (A.before_le _)]
  have hs : (A.src (edgeOfBlock t.val ht k r)).val = (A.E (ix2 0 (edgeOfBlock t.val ht k r))).toNat := Nat.min_eq_left (by omega)
  unfold fromStart
  rw [hs]
  split
  · rfl
  · exact EReal.coe_zero.symm

theorem step_sum (t : Fin cfg2.N) (ht : t.val < 10) (g : Fin 64) (f : Fin 256) :
    stepSum (edgeBlk c V 0 t) (edgeBlk c V 1 t) (edgeBlk c V 2 t) (edgeBlk c V 3 t) (edgeBlk c V 4 t) (edgeBlk c V 6 t) (edgeBlk c V 7 t) g f
      = ((∑ k : Fin 8, ∑ r : Fin 2000, fromStart A g.val f (edgeOfBlock t.val ht k r) : ℝ) : EReal) := by
  unfold stepSum
  rw [coe_sum]
  exact Finset.sum_congr rfl fun k _ => lane_sum hV hA t ht k g f

/-- The sums after `n` points: those from the start of `g` on, less those from the start of the next graph on. -/
theorem edgeFold_sum (n : ℕ) (g : Fin 64) (f : Fin 256) :
    edgeFold c V n (ix2 g f) = ((∑ t ∈ Finset.range n, ((∑ k : Fin 8, ∑ r : Fin 2000, fromStart A g.val f (edgeOfBlock (t % 10) (Nat.mod_lt _ (by decide)) k r))
      - if g.val < 63 then ∑ k : Fin 8, ∑ r : Fin 2000, fromStart A (1 + g.val) f (edgeOfBlock (t % 10) (Nat.mod_lt _ (by decide)) k r) else 0) : ℝ) : EReal) := by
  induction n with
  | zero => rw [Finset.sum_range_zero]; show k2_pay4 (F := Ideal) (ix2 g f) = _; pointwise [k2_pay4]; exact EReal.coe_zero.symm
  | succ n ih =>
    have ht : (edgePt n).val < 10 := Nat.mod_lt _ (by decide)
    rw [Finset.sum_range_succ, EReal.coe_add, ← ih]
    show edgeAcc (F := Ideal) _ _ _ _ _ _ _ _ (ix2 g f) = _
    rw [edgeAcc_apply, step_sum hV hA (edgePt n) ht, EReal.coe_sub]
    refine congrArg _ (congrArg _ ?_)
    by_cases h : g.val < 63
    · rw [dif_pos h, if_pos h, step_sum hV hA (edgePt n) ht]; rfl
    · rw [dif_neg h, if_neg h]; exact EReal.coe_zero.symm

theorem edge_total (g : Fin 64) (f : Fin 256) : edgeFold c V 10 (ix2 g f) = ((A.edgeTot g.val f : ℝ) : EReal) := by
  rw [edgeFold_sum hV hA, ← A.edgeTot_eq hA g f]
  refine congrArg _ ?_
  have all : ∀ q : ℕ, ∑ t : Fin 10, ∑ k : Fin 8, ∑ r : Fin 2000, fromStart A q f (edgeOfBlock (t.val % 10) (Nat.mod_lt _ (by decide)) k r)
      = ∑ e, fromStart A q f e := fun q => by
    rw [← sum_edges (fromStart A q f)]
    refine Finset.sum_congr rfl fun t _ => Finset.sum_congr rfl fun k _ => Finset.sum_congr rfl fun r _ => congrArg _ (Fin.ext ?_)
    show 16000 * (t.val % 10) + 8 * r.val + k.val = 16000 * t.val + 8 * r.val + k.val
    rw [Nat.mod_eq_of_lt t.isLt]
  rw [Finset.sum_range, Finset.sum_sub_distrib, all]
  by_cases h : g.val < 63
  · simp only [if_pos h]
    rw [all]; rfl
  · simp only [if_neg h, Finset.sum_const_zero]; rfl

/-- The second result: the flat features. -/
theorem edge_flat (O W) (g : Fin 64) (f : Fin 256) :
    ((edgeDat c V O W).arrAt 13 cfg2.N : Vec Ideal S64x256 .f32) (ix2 g f) = A.flat g.val f := by
  rw [edge_arr_13]
  have e : ∀ (x y : Vec Ideal S64x256 .f32), k2_pay2 (F := Ideal) x y (ix2 g f) = (x (ix2 g f) - y (ix2 g f) : EReal) := fun x y => by pointwise [k2_pay2]
  rw [e, edge_total hV hA, edgeBlk_5 c V _ g f, hV.sum]
  rfl

/-- The first result: the flat features through the two layers. -/
theorem edge_logits (O W) (g : Fin 64) (o : Fin 10) :
    ((edgeDat c V O W).arrAt 12 cfg2.N : Vec Ideal S64x10 .f32) (ix2 g o)
      = ∑ i : Fin 256, (max (∑ f : Fin 256, (A.flat g.val f * (V main_arg7 : Vec Ideal S256x256 .f32) (ix2 i f) : EReal)
            + (V main_v27 : Vec Ideal S1x256 .f32) (ix2 0 i)) (0 : EReal) * (V main_arg9 : Vec Ideal S10x256 .f32) (ix2 o i) : EReal)
          + (V main_v28 : Vec Ideal S1x10 .f32) (ix2 0 o) := by
  rw [edge_arr_12]
  have e : ∀ (v0 v1 : Vec Ideal S64x256 .f32) (v2 : Vec Ideal S256x256 .f32) (v3 : Vec Ideal S1x256 .f32) (v4 : Vec Ideal S10x256 .f32) (v5 : Vec Ideal S1x10 .f32),
      k2_pay3 (F := Ideal) v0 v1 v2 v3 v4 v5 (ix2 g o) = ∑ i : Fin 256, (max (∑ f : Fin 256, (k2_pay2 (F := Ideal) v0 v1 (ix2 g f) * v2 (ix2 i f) : EReal)
            + v3 (ix2 0 i)) (0 : EReal) * v4 (ix2 o i) : EReal) + v5 (ix2 0 o) := fun v0 v1 v2 v3 v4 v5 => by pointwise [k2_pay3]
  rw [e, edgeBlk_11 c V _ o]
  refine congrArg (· + _) (Finset.sum_congr rfl fun i _ => ?_)
  rw [edgeBlk_9 c V _ i, edgeBlk_10 c V _ o i]
  refine congrArg (fun x => max (x + _) _ * _) (Finset.sum_congr rfl fun f _ => ?_)
  rw [edgeBlk_8 c V _ i f, ← edge_arr_13 c V O W, edge_flat hV hA]

end Pass

end Cert.Proof.Kern
-- ==== Proof.RefSums.lean ====
/-
  The reference's operations that choose their elements by index words, read at an index: the sum of rows into the
  graph each names, and the rows and entries picked out of a table.
-/
module

public import proofs.«01_k».proof.Proof.Gen.ReferenceIdeal
public import Idealize.ShloMosaic.Lib.Pointwise
public import Idealize.ShloMosaic.Lib.Routing.OpsPair

@[expose] public section

set_option maxRecDepth 16384

noncomputable section

namespace Cert.Proof.Ref

open Idealize.ShloMosaic

/-! ## Rows summed into graphs -/

/-- The dimension numbers of the sum: row `n` of the updates goes to the row of the result that index word `n` names. -/
abbrev segDims (N : ℕ) (wf : ScatterDims.WF ⟨3, ![64, 16, 16]⟩ ⟨2, ![N, 1]⟩ ⟨3, ![N, 16, 16]⟩ [1, 2] [0] [0] 1) :
    ScatterDims ⟨3, ![64, 16, 16]⟩ ⟨2, ![N, 1]⟩ ⟨3, ![N, 16, 16]⟩ where
  updateWindowDims := [1, 2]
  insertedWindowDims := [0]
  scatterDimsToOperandDims := [0]
  indexVectorDim := 1
  wf := wf

section Seg

variable {N : ℕ} (wf : ScatterDims.WF ⟨3, ![64, 16, 16]⟩ ⟨2, ![N, 1]⟩ ⟨3, ![N, 16, 16]⟩ [1, 2] [0] [0] 1)
  (idx : IVec ⟨2, ![N, 1]⟩ 32) (j : (⟨3, ![N, 16, 16]⟩ : Shape).Idx)

theorem seg_start_row : (segDims N wf).start j idx 0 = (idx (ix2 (j 0) 0)).toInt := by
  unfold ScatterDims.start
  rw [dif_pos (show (0 : Fin 3) ∈ (segDims N wf).scatterDimsToOperandDims from List.mem_singleton.mpr rfl)]
  refine congrArg (fun q => (idx q).toInt) (funext fun b => Fin.ext ?_)
  match b with
  | ⟨0, _⟩ => rfl
  | ⟨1, _⟩ => rfl

theorem seg_start_one : (segDims N wf).start j idx 1 = 0 := rfl
theorem seg_start_two : (segDims N wf).start j idx 2 = 0 := rfl
theorem seg_window_row : (segDims N wf).window j 0 = 0 := rfl
theorem seg_window_one : (segDims N wf).window j 1 = (j 1).val := rfl
theorem seg_window_two : (segDims N wf).window j 2 = (j 2).val := rfl

/-- Where an update lands. -/
theorem seg_lands (g : Fin 64) (s d : Fin 16) :
    (segDims N wf).resultIdx? j idx = some (ix3 g s d) ↔ (idx (ix2 (j 0) 0)).toInt = (g.val : ℤ) ∧ j 1 = s ∧ j 2 = d := by
  rw [Routing.resultIdx?_eq_some]
  constructor
  · intro h
    have h0 := h 0
    have h1 := h 1
    have h2 := h 2
    rw [seg_start_row, seg_window_row] at h0
    rw [seg_start_one, seg_window_one] at h1
    rw [seg_start_two, seg_window_two] at h2
    exact ⟨by simpa using h0, Fin.ext (by simpa using h1), Fin.ext (by simpa using h2)⟩
  · rintro ⟨h0, h1, h2⟩ a
    match a with
    | ⟨0, _⟩ => show (segDims N wf).start j idx 0 + ((segDims N wf).window j 0 : ℤ) = _; rw [seg_start_row, seg_window_row, h0]; simp
    | ⟨1, _⟩ => show (segDims N wf).start j idx 1 + ((segDims N wf).window j 1 : ℤ) = _; rw [seg_start_one, seg_window_one, h1]; simp
    | ⟨2, _⟩ => show (segDims N wf).start j idx 2 + ((segDims N wf).window j 2 : ℤ) = _; rw [seg_start_two, seg_window_two, h2]; simp

/-- The sum at an index: over the rows whose word names the graph. -/
theorem seg_apply (x : FVec Ideal ⟨3, ![64, 16, 16]⟩ .f32) (upd : FVec Ideal ⟨3, ![N, 16, 16]⟩ .f32) (g : Fin 64) (s d : Fin 16) :
    Host.scatterAdd (F := Ideal) (segDims N wf) x idx upd (ix3 g s d)
      = (x (ix3 g s d) : EReal) + ∑ n : Fin N, if (idx (ix2 n 0)).toInt = (g.val : ℤ) then (upd (ix3 n s d) : EReal) else 0 := by
  show (x (ix3 g s d) : EReal) + ∑ j ∈ Finset.univ.filter (fun j => (segDims N wf).resultIdx? j idx = some (ix3 g s d)), (upd j : EReal) = _
  refine congrArg _ ?_
  rw [← Finset.sum_filter]
  refine Finset.sum_nbij' (fun j => j 0) (fun n => ix3 n s d) (fun j hj => ?_) (fun n hn => ?_) (fun j hj => ?_) (fun n _ => rfl) (fun j hj => ?_)
  · rw [Finset.mem_filter, seg_lands] at hj
    exact Finset.mem_filter.2 ⟨Finset.mem_univ _, hj.2.1⟩
  · rw [Finset.mem_filter] at hn
    rw [Finset.mem_filter, seg_lands]
    exact ⟨Finset.mem_univ _, hn.2, rfl, rfl⟩
  · rw [Finset.mem_filter, seg_lands] at hj
    obtain ⟨-, -, h1, h2⟩ := hj
    funext a
    match a with
    | ⟨0, _⟩ => rfl
    | ⟨1, _⟩ => exact h1.symm
    | ⟨2, _⟩ => exact h2.symm
  · rw [Finset.mem_filter, seg_lands] at hj
    obtain ⟨-, -, h1, h2⟩ := hj
    refine congrArg (fun q => (upd q : EReal)) (funext fun a => ?_)
    match a with
    | ⟨0, _⟩ => rfl
    | ⟨1, _⟩ => exact h1
    | ⟨2, _⟩ => exact h2

end Seg

/-! ## Rows and entries picked by a word -/

open Cert.ReferenceIdeal Cert.ReferenceIdeal.Gen

/-- The row a word names, read signed and brought into the table. -/
def pick (w : BitVec 32) : Fin 10000 := ⟨min w.toInt.toNat (10000 - 1), by omega⟩

theorem entry_apply {α : Type} (x : S10000.Idx → α) (idx : IVec S160000x1 32) (e : Fin 160000) :
    Host.gather gather_S10000_S160000x1_S160000_n_0_n_n_0_1_1 x idx (ix1 e) = x (ix1 (pick (idx (ix2 e 0)))) := by
  refine congrArg x (funext fun a => ?_)
  match a with
  | ⟨0, _⟩ =>
    refine Fin.ext ?_
    show min (idx _).toInt.toNat (10000 - 1) + 0 + 0 = min (idx (ix2 e 0)).toInt.toNat (10000 - 1)
    refine congrArg (fun q => min (idx q).toInt.toNat (10000 - 1)) (funext fun b => ?_)
    match b with
    | ⟨0, _⟩ => rfl
    | ⟨1, _⟩ => rfl

theorem row_apply {α : Type} (x : S10000x16.Idx → α) (idx : IVec S2x160000x1 32) (s : Fin 2) (e : Fin 160000) (d : Fin 16) :
    Host.gather gather_S10000x16_S2x160000x1_S2x160000x16_2_0_n_n_0_2_116 x idx (ix3 s e d) = x (ix2 (pick (idx (ix3 s e 0))) d) := by
  refine congrArg x (funext fun a => ?_)
  match a with
  | ⟨0, _⟩ =>
    refine Fin.ext ?_
    show min (idx _).toInt.toNat (10000 - 1) + 0 + 0 = min (idx (ix3 s e 0)).toInt.toNat (10000 - 1)
    refine congrArg (fun q => min (idx q).toInt.toNat (10000 - 1)) (funext fun b => ?_)
    match b with
    | ⟨0, _⟩ => rfl
    | ⟨1, _⟩ => rfl
    | ⟨2, _⟩ => rfl
  | ⟨1, _⟩ => exact Fin.ext (show 0 + 0 + d.val = d.val by omega)

end Cert.Proof.Ref
-- ==== Proof.RefValue.lean ====
/-
  The reference over the extended reals: the node features, the two activations, the two sums over graphs, their
  difference and the two layers, each read at an index.
-/
module

public import proofs.«01_k».proof.Proof.RefSums
public import proofs.«01_k».proof.Proof.Gen.ReferenceIdeal.Run
public import proofs.«01_k».proof.Proof.Spec
public import Idealize.ShloMosaic.Lib.Tactic.WordOmega

@[expose] public section

set_option maxRecDepth 16384

noncomputable section

namespace Cert.Proof.Ref

open Cert.ReferenceIdeal Cert.ReferenceIdeal.Gen
open Idealize.ShloMosaic Idealize.ShloMosaic.TcCoe
open Cert.Proof.Kern (Args InRange sg rowAt dirOf stepOf div_sg coe_sum word_hundred word_least)

variable (A : Args)

/-! ## The reference's values -/

/-- The node features. -/
def feats : FVec Ideal S10000x16 .f32 :=
  Host.dotGeneral (F := Ideal) (φ₁ := .f32) (φ₂ := .f32) dot_S10000x128_S128x16_S10000x16_1_0_0_1_n_n none
    (mulf (F := Ideal) (φ := .f32) A.X (broadcastInDim S10000x128 ![0, 1] bcast_S10000x1_S10000x128_0_1 (broadcastInDim S10000x1 ![0] bcast_S10000_S10000x1_0 A.W))) A.V

/-- The nodes' activations. -/
def nodeActs : FVec Ideal S10000x16x16 .f32 :=
  Host.divf (broadcastInDim S10000x16x16 ![] bcast_S_S10000x16x16 (constant (F := Ideal) S_ .f32 0x3F800000#32))
    (addf (broadcastInDim S10000x16x16 ![] bcast_S_S10000x16x16 (constant (F := Ideal) S_ .f32 0x3F800000#32))
      (Host.exp (Host.negf (mulf (broadcastInDim S10000x16x16 ![] bcast_S_S10000x16x16 (constant (F := Ideal) S_ .f32 0x42C80000#32))
        (subf (broadcastInDim S10000x16x16 ![0, 1, 2] bcast_S1x16x1_S10000x16x16_0_1_2 (broadcastInDim S1x16x1 ![1] bcast_S16_S1x16x1_1 A.L))
          (broadcastInDim S10000x16x16 ![0, 1, 2] bcast_S10000x1x16_S10000x16x16_0_1_2 (broadcastInDim S10000x1x16 ![0, 2] bcast_S10000x16_S10000x1x16_0_2 (feats A))))))))

/-- The edge list with a negative entry counted from the end. -/
def ends : IVec S2x160000 32 :=
  select (cmpi .slt A.E (broadcastInDim S2x160000 ![] bcast_S_S2x160000 (constantI S_ 32 0#32)))
    (addi A.E (broadcastInDim S2x160000 ![] bcast_S_S2x160000 (constantI S_ 32 10000#32))) A.E

/-- The sources' row of the edge list; -/
def firsts : IVec S160000 32 :=
  shapeCast S160000 (extractStridedSlice S1x160000 ![0, 0] A.E slices_S2x160000_S1x160000_0_0) shapeCasts_S1x160000_S160000

/-- the same with a negative entry counted from the end. -/
def sources : IVec S160000 32 :=
  select (cmpi .slt (firsts A) (broadcastInDim S160000 ![] bcast_S_S160000 (constantI S_ 32 0#32)))
    (addi (firsts A) (broadcastInDim S160000 ![] bcast_S_S160000 (constantI S_ 32 10000#32))) (firsts A)

/-- The rows of the features at both ends of every edge; -/
def endFeats : FVec Ideal S2x160000x16 .f32 :=
  Host.gather gather_S10000x16_S2x160000x1_S2x160000x16_2_0_n_n_0_2_116 (feats A)
    (broadcastInDim S2x160000x1 ![0, 1] bcast_S2x160000_S2x160000x1_0_1 (ends A))

/-- the larger of the two; -/
def topFeats : FVec Ideal S160000x16 .f32 :=
  Host.reduce (FloatOps.maximumf (F := Ideal)) (endFeats A) (constant (F := Ideal) S_ .f32 0xFF800000#32) reducesTo_S2x160000x16_S160000x16_d0 h_S_

/-- the edges' features. -/
def edgeFeats : FVec Ideal S160000x16 .f32 :=
  mulf (topFeats A) (broadcastInDim S160000x16 ![0, 1] bcast_S160000x1_S160000x16_0_1 (broadcastInDim S160000x1 ![0] bcast_S160000_S160000x1_0 A.EW))

/-- The edges' activations. -/
def edgeActs : FVec Ideal S160000x16x16 .f32 :=
  Host.divf (broadcastInDim S160000x16x16 ![] bcast_S_S160000x16x16 (constant (F := Ideal) S_ .f32 0x3F800000#32))
    (addf (broadcastInDim S160000x16x16 ![] bcast_S_S160000x16x16 (constant (F := Ideal) S_ .f32 0x3F800000#32))
      (Host.exp (Host.negf (mulf (broadcastInDim S160000x16x16 ![] bcast_S_S160000x16x16 (constant (F := Ideal) S_ .f32 0x42C80000#32))
        (subf (broadcastInDim S160000x16x16 ![0, 1, 2] bcast_S1x16x1_S160000x16x16_0_1_2 (broadcastInDim S1x16x1 ![1] bcast_S16_S1x16x1_1 A.L))
          (broadcastInDim S160000x16x16 ![0, 1, 2] bcast_S160000x1x16_S160000x16x16_0_1_2 (broadcastInDim S160000x1x16 ![0, 2] bcast_S160000x16_S160000x1x16_0_2 (edgeFeats A))))))))

/-- The graphs of the edges' sources. -/
def edgeGraphs : IVec S160000 32 :=
  Host.gather gather_S10000_S160000x1_S160000_n_0_n_n_0_1_1 A.B (broadcastInDim S160000x1 ![0] bcast_S160000_S160000x1_0 (sources A))

/-- The nodes' sums over graphs; -/
def nodeSums : FVec Ideal S64x16x16 .f32 :=
  Host.scatterAdd scatter_S64x16x16_S10000x1_S10000x16x16_12_0_0_1 (broadcastInDim S64x16x16 ![] bcast_S_S64x16x16 (constant (F := Ideal) S_ .f32 0x00000000#32))
    (broadcastInDim S10000x1 ![0] bcast_S10000_S10000x1_0 A.B) (nodeActs A)

/-- the edges'; -/
def edgeSums : FVec Ideal S64x16x16 .f32 :=
  Host.scatterAdd scatter_S64x16x16_S160000x1_S160000x16x16_12_0_0_1 (broadcastInDim S64x16x16 ![] bcast_S_S64x16x16 (constant (F := Ideal) S_ .f32 0x00000000#32))
    (broadcastInDim S160000x1 ![0] bcast_S160000_S160000x1_0 (edgeGraphs A)) (edgeActs A)

/-- their difference, flat. -/
def flatOut : FVec Ideal S64x256 .f32 := shapeCast S64x256 (subf (nodeSums A) (edgeSums A)) shapeCasts_S64x16x16_S64x256

/-- The two layers. -/
def layers (x : FVec Ideal S64x256 .f32) (a7 : FVec Ideal S256x256 .f32) (a8 : FVec Ideal S256 .f32) (a9 : FVec Ideal S10x256 .f32) (a10 : FVec Ideal S10 .f32) : FVec Ideal S64x10 .f32 :=
  addf (Host.dotGeneral (F := Ideal) dot_S64x256_S256x10_S64x10_1_0_0_1_n_n none
    (maximumf (addf (Host.dotGeneral (F := Ideal) dot_S64x256_S256x256_S64x256_1_0_0_1_n_n none x (transpose S256x256 [1, 0] a7 transposes_S256x256_S256x256_1_0))
      (broadcastInDim S64x256 ![0, 1] bcast_S1x256_S64x256_0_1 (broadcastInDim S1x256 ![1] bcast_S256_S1x256_1 a8)))
      (broadcastInDim S64x256 ![] bcast_S_S64x256 (constant (F := Ideal) S_ .f32 0x00000000#32)))
    (transpose S256x10 [1, 0] a9 transposes_S10x256_S256x10_1_0))
    (broadcastInDim S64x10 ![0, 1] bcast_S1x10_S64x10_0_1 (broadcastInDim S1x10 ![1] bcast_S10_S1x10_1 a10))

/-! ## Read at an index -/

theorem feats_apply (n : Fin 10000) (d : Fin 16) : feats A (ix2 n d) = A.nodeH n d := by
  unfold Args.nodeH; pointwise [feats]

theorem nodeActs_apply (n : Fin 10000) (s d : Fin 16) :
    nodeActs A (ix3 n s d) = ((sg (A.L (ix1 s) - A.nodeH n d) : ℝ) : EReal) := by
  rw [← div_sg, ← feats_apply, ← word_hundred]
  pointwise [nodeActs]

theorem wrap_word (w : BitVec 32) (h : w.toNat < 10000) : Scalar.select (IntOp.cmpi .slt w 0#32) (IntOp.addi w 10000#32) w = w :=
  Routing.wrap_of_lt w _ (by omega)

theorem pick_eq (w : BitVec 32) (h : w.toNat < 10000) : pick w = rowAt w := by
  refine Fin.ext ?_
  show min w.toInt.toNat (10000 - 1) = min w.toNat 9999
  rw [BitVec.toInt_eq_toNat_of_lt (by omega), Int.toNat_natCast]

variable {A} (hA : InRange A.E A.B)
include hA

theorem ends_apply (r : Fin 2) (e : Fin 160000) : ends A (ix2 r e) = A.E (ix2 r e) := by
  rw [← wrap_word (A.E (ix2 r e)) (hA.node _)]
  pointwise [ends]

theorem sources_apply (e : Fin 160000) : sources A (ix1 e) = A.E (ix2 0 e) := by
  rw [← wrap_word (A.E (ix2 0 e)) (hA.node _)]
  pointwise [sources, firsts]

theorem endFeats_apply (r : Fin 2) (e : Fin 160000) (d : Fin 16) : endFeats A (ix3 r e d) = A.nodeH (rowAt (A.E (ix2 r e))) d := by
  unfold endFeats
  rw [row_apply, feats_apply]
  have h : broadcastInDim S2x160000x1 ![0, 1] bcast_S2x160000_S2x160000x1_0_1 (ends A) (ix3 r e 0) = ends A (ix2 r e) := by pointwise
  rw [h, ends_apply hA, pick_eq _ (hA.node _)]

theorem topFeats_apply (e : Fin 160000) (d : Fin 16) : topFeats A (ix2 e d) = max (A.nodeH (A.src e) d) (A.nodeH (A.dst e) d) := by
  have h : topFeats A (ix2 e d) = max (endFeats A (ix3 0 e d) : EReal) (endFeats A (ix3 1 e d)) := by
    pointwise [topFeats]
    rw [word_least, show (Finset.univ : Finset (Fin 2)) = {0, 1} from rfl, Finset.fold_insert (by decide), Finset.fold_singleton, max_bot_right]
  rw [h, endFeats_apply hA, endFeats_apply hA]
  rfl

theorem edgeFeats_apply (e : Fin 160000) (d : Fin 16) : edgeFeats A (ix2 e d) = A.edgeH e d := by
  have h : ∀ (x : FVec Ideal S160000x16 .f32) (w : FVec Ideal S160000 .f32), (mulf (F := Ideal) x (broadcastInDim S160000x16 ![0, 1] bcast_S160000x1_S160000x16_0_1
      (broadcastInDim S160000x1 ![0] bcast_S160000_S160000x1_0 w)) (ix2 e d) : EReal) = x (ix2 e d) * w (ix1 e) := fun x w => by pointwise
  unfold edgeFeats
  rw [h, topFeats_apply hA]
  rfl

theorem edgeActs_apply (e : Fin 160000) (s d : Fin 16) :
    edgeActs A (ix3 e s d) = ((sg (A.L (ix1 s) - A.edgeH e d) : ℝ) : EReal) := by
  rw [← div_sg, ← edgeFeats_apply hA, ← word_hundred]
  pointwise [edgeActs]

theorem edgeGraphs_apply (e : Fin 160000) : edgeGraphs A (ix1 e) = A.B (ix1 (A.src e)) := by
  unfold edgeGraphs
  rw [entry_apply]
  have h : broadcastInDim S160000x1 ![0] bcast_S160000_S160000x1_0 (sources A) (ix2 e 0) = sources A (ix1 e) := by pointwise
  rw [h, sources_apply hA, pick_eq _ (hA.node _)]
  rfl

omit hA in
theorem toInt_eq_iff (w : BitVec 32) (g : ℕ) (h : w.toNat < 64) : w.toInt = (g : ℤ) ↔ w.toNat = g := by
  rw [BitVec.toInt_eq_toNat_of_lt (by omega)]
  exact Int.ofNat_inj

theorem nodeSums_apply (g : Fin 64) (f : Fin 256) : nodeSums A (ix3 g (stepOf f) (dirOf f)) = ((A.nodeTot g.val f : ℝ) : EReal) := by
  refine (seg_apply (N := 10000) scatter_S64x16x16_S10000x1_S10000x16x16_12_0_0_1.wf _ _ _ g (stepOf f) (dirOf f)).trans ?_
  unfold Args.nodeTot
  have h0 : (broadcastInDim S64x16x16 ![] bcast_S_S64x16x16 (constant (F := Ideal) S_ .f32 0x00000000#32) (ix3 g (stepOf f) (dirOf f)) : EReal) = 0 := by pointwise
  rw [h0, zero_add, coe_sum]
  refine Finset.sum_congr rfl fun n _ => ?_
  have h : broadcastInDim S10000x1 ![0] bcast_S10000_S10000x1_0 A.B (ix2 n 0) = A.B (ix1 n) := by pointwise
  rw [h, if_congr (toInt_eq_iff _ _ (hA.graph _)) rfl rfl, nodeActs_apply]
  show (if A.graphOf n = g.val then _ else _) = _
  split
  · rfl
  · exact EReal.coe_zero.symm

theorem edgeSums_apply (g : Fin 64) (f : Fin 256) : edgeSums A (ix3 g (stepOf f) (dirOf f)) = ((A.edgeTot g.val f : ℝ) : EReal) := by
  refine (seg_apply (N := 160000) scatter_S64x16x16_S160000x1_S160000x16x16_12_0_0_1.wf _ _ _ g (stepOf f) (dirOf f)).trans ?_
  unfold Args.edgeTot
  have h0 : (broadcastInDim S64x16x16 ![] bcast_S_S64x16x16 (constant (F := Ideal) S_ .f32 0x00000000#32) (ix3 g (stepOf f) (dirOf f)) : EReal) = 0 := by pointwise
  rw [h0, zero_add, coe_sum]
  refine Finset.sum_congr rfl fun e _ => ?_
  have h : broadcastInDim S160000x1 ![0] bcast_S160000_S160000x1_0 (edgeGraphs A) (ix2 e 0) = edgeGraphs A (ix1 e) := by pointwise
  rw [h, edgeGraphs_apply hA, if_congr (toInt_eq_iff _ _ (hA.graph _)) rfl rfl, edgeActs_apply hA]
  show (if A.graphOf (A.src e) = g.val then _ else _) = _
  split
  · rfl
  · exact EReal.coe_zero.symm

theorem flatOut_apply (g : Fin 64) (f : Fin 256) : flatOut A (ix2 g f) = A.flat g.val f := by
  unfold Args.flat
  rw [← nodeSums_apply hA, ← edgeSums_apply hA]
  unfold stepOf dirOf
  pointwise [flatOut]

theorem layers_apply (a7 : FVec Ideal S256x256 .f32) (a8 : FVec Ideal S256 .f32) (a9 : FVec Ideal S10x256 .f32) (a10 : FVec Ideal S10 .f32) (g : Fin 64) (o : Fin 10) :
    layers (flatOut A) a7 a8 a9 a10 (ix2 g o)
      = ∑ i : Fin 256, (max (∑ f : Fin 256, (A.flat g.val f * a7 (ix2 i f) : EReal) + a8 (ix1 i)) (0 : EReal) * a9 (ix2 o i) : EReal) + a10 (ix1 o) := by
  simp only [← flatOut_apply hA]
  pointwise [layers]

end Cert.Proof.Ref
-- ==== Proof.Value.lean ====
/-
  Kernel and reference end with the same two results over the extended reals: what the two passes find in their arrays,
  chased back to the arguments, and the kernel's results read against the reference's.
-/
module

public import proofs.«01_k».proof.Proof.HostValue
public import proofs.«01_k».proof.Proof.NodeValue
public import proofs.«01_k».proof.Proof.EdgeValue
public import proofs.«01_k».proof.Proof.RefValue

@[expose] public section

set_option maxRecDepth 16384

noncomputable section

namespace Cert.Proof.Kern

open Cert.KernelIdeal Cert.KernelIdeal.Gen
open Idealize.ShloMosaic Idealize.ShloMosaic.TcCoe Idealize.SL.Sem

/-- Two arrays of two axes that agree at every pair of coordinates are equal. -/
theorem ext2 {α : Type} {a b : ℕ} {x y : (⟨2, ![a, b]⟩ : Shape).Idx → α} (h : ∀ i j, x (ix2 i j) = y (ix2 i j)) : x = y := by
  funext q
  have e : q = ix2 (q 0) (q 1) := ValueIdx.eq_ix2 q
  rw [e]
  exact h _ _

section Chain

variable (m : (ℓ : Loc nD τ sig) → Buf (Elt Ideal) ℓ) (d : Dev nD)

/-- The arguments in memory. -/
def argsOf : Args where
  X := m (tLoc d main_arg0)
  W := m (tLoc d main_arg1)
  E := m (tLoc d main_arg2)
  EW := m (tLoc d main_arg3)
  B := m (tLoc d main_arg4)
  V := m (tLoc d main_arg5)
  L := m (tLoc d main_arg6)

/-- An array the first host operations leave alone. -/
theorem V1_keep (b : Ref sig .tc) (h : b ∉ outs0) : V1 m d (b : DevRef τ sig) = m (tLoc d b) := ops0_keep _ b h

/-- An array nothing between the node pass and the edge pass writes. -/
theorem V4_keep (b : Ref sig .tc) (h : b ∉ outs1) (h0 : b ≠ main_v24_0) (h1 : b ≠ main_v24_1) :
    V4 m d (b : DevRef τ sig) = V2 m d (b : DevRef τ sig) :=
  (ops1_keep _ b h).trans (afterGather_of_ne _ b h0 h1)

/-- The same from the first host operations on. -/
theorem V4_keep_V1 (b : Ref sig .tc) (h : b ∉ outs1 ++ [main_v24_0, main_v24_1, main_v23_0, main_v23_1, main_v23_2]) :
    V4 m d (b : DevRef τ sig) = V1 m d (b : DevRef τ sig) := by
  simp only [List.mem_append, List.mem_cons, List.not_mem_nil, or_false, not_or] at h
  have h1 : b ∉ outs1 := by
    simp only [outs1, List.mem_cons, List.not_mem_nil, or_false, not_or]; exact h.1
  exact (V4_keep m d b h1 h.2.1 h.2.2.1).trans (afterNode_of_ne _ _ b h.2.2.2.1 h.2.2.2.2.1 h.2.2.2.2.2)

/-- What the node pass finds. -/
theorem nodeIn : NodeIn (argsOf m d) d (atTc d (V1 m d)) where
  x n k := congrFun (V1_keep m d main_arg0 (by decide)) (ix2 n k)
  w n := host_weights _ n
  b t r n h := host_graphs _ t r n h
  v k e := congrFun (V1_keep m d main_arg5 (by decide)) (ix2 k e)
  l f := host_steps _ f
  s e f := host_scale _ e f

/-- The features the SparseCore reads. -/
theorem feature_table (n : Fin 10000) (e : Fin 16) :
    (V2 m d (main_v23_0 : DevRef τ sig) : Vec Ideal S10000x16 .f32) (ix2 n e) = (argsOf m d).nodeH n e := by
  have h : V2 m d (main_v23_0 : DevRef τ sig) = (nodeOf d (V1 m d)).arrAt 6 cfg0.N := afterNode_0 d _
  rw [h]
  exact node_features (nodeIn m d) _ _ n e

theorem edge_list : V2 m d (main_arg2 : DevRef τ sig) = m (tLoc d main_arg2) := edgesOf_eq m d

variable (hA : InRange (m (tLoc d main_arg2)) (m (tLoc d main_arg4)))
include hA

/-- What the edge pass finds. -/
theorem edgeIn : EdgeIn (argsOf m d) d (atTc d (V4 m d)) where
  u r k e l q hl hq := by
    refine (host_packU (V3 m d) r k e l hl q hq).trans ?_
    have h : V3 m d (main_v24_0 : DevRef τ sig) = gathered (V2 m d (main_v23_0 : DevRef τ sig)) (V2 m d (main_arg2 : DevRef τ sig)) 0 := afterGather_0 _
    rw [h, edge_list]
    exact feature_table m d _ e
  v r k e l q hl hq := by
    refine (host_packV (V3 m d) r k e l hl q hq).trans ?_
    have h : V3 m d (main_v24_1 : DevRef τ sig) = gathered (V2 m d (main_v23_0 : DevRef τ sig)) (V2 m d (main_arg2 : DevRef τ sig)) 1 := afterGather_1 _
    rw [h, edge_list]
    exact feature_table m d _ e
  w t r k q hq := (congrFun (V4_keep_V1 m d main_v18 (by decide)) (ix3 t r k)).trans (host_edgeWeights _ t r k q hq)
  s t r k q hq := (congrFun (V4_keep_V1 m d main_v22 (by decide)) (ix3 t k r)).trans (host_sources _ t r k q hq)
  start g := by
    refine (congrFun ((V4_keep m d main_v23_2 (by decide) (by decide) (by decide)).trans (afterNode_2 d _)) (ix2 g 0)).trans ?_
    exact node_counts (nodeIn m d) hA _ _ g
  sum g f := by
    refine (congrFun ((V4_keep m d main_v23_1 (by decide) (by decide) (by decide)).trans (afterNode_1 d _)) (ix2 g f)).trans ?_
    exact node_sums (nodeIn m d) _ _ g f
  l f := (congrFun (V4_keep_V1 m d main_v15 (by decide)) (ix2 0 f)).trans (host_steps _ f)
  m e f := (congrFun (V4_keep_V1 m d main_v10 (by decide)) (ix2 e f)).trans (host_scale _ e f)

/-- An argument reaches the edge pass as the launch had it. -/
theorem V4_arg (b : Ref sig .tc) (h : b ∉ outs1 ++ [main_v24_0, main_v24_1, main_v23_0, main_v23_1, main_v23_2]) (h0 : b ∉ outs0) :
    V4 m d (b : DevRef τ sig) = m (tLoc d b) := (V4_keep_V1 m d b h).trans (V1_keep m d b h0)

/-- The second result is the reference's. -/
theorem second : V5 m d (main_v29_1 : DevRef τ sig) = Ref.flatOut (argsOf m d) := by
  refine (afterEdge_1 d _).trans (ext2 fun g f => ?_)
  exact (edge_flat (edgeIn m d hA) hA _ _ g f).trans (Ref.flatOut_apply hA g f).symm

/-- The first result is the reference's. -/
theorem first : V5 m d (main_v29_0 : DevRef τ sig)
    = Ref.layers (Ref.flatOut (argsOf m d)) (m (tLoc d main_arg7)) (m (tLoc d main_arg8)) (m (tLoc d main_arg9)) (m (tLoc d main_arg10)) := by
  refine (afterEdge_0 d _).trans (ext2 fun g o => ?_)
  refine (edge_logits (edgeIn m d hA) hA _ _ g o).trans ((Ref.layers_apply hA _ _ _ _ g o).trans ?_).symm
  have h7 : (V4 m d (main_arg7 : DevRef τ sig)) = m (tLoc d main_arg7) := V4_arg m d hA _ (by decide) (by decide)
  have h9 : (V4 m d (main_arg9 : DevRef τ sig)) = m (tLoc d main_arg9) := V4_arg m d hA _ (by decide) (by decide)
  have k8 : V3 m d (main_arg8 : DevRef τ sig) = m (tLoc d main_arg8) :=
    (ops1_keep _ main_arg8 (by decide)).symm.trans (V4_arg m d hA main_arg8 (by decide) (by decide))
  have k10 : V3 m d (main_arg10 : DevRef τ sig) = m (tLoc d main_arg10) :=
    (ops1_keep _ main_arg10 (by decide)).symm.trans (V4_arg m d hA main_arg10 (by decide) (by decide))
  have h8 := fun i : Fin 256 => (host_bias1 (V3 m d) i).trans (congrFun k8 (ix1 i))
  have h10 := fun i : Fin 10 => (host_bias2 (V3 m d) i).trans (congrFun k10 (ix1 i))
  refine congrArg₂ (fun x y : EReal => x + y) (Finset.sum_congr rfl fun i _ => ?_) (h10 o).symm
  refine congrArg₂ (fun x y : EReal => x * y) (congrArg (fun x : EReal => max x 0) ?_) (congrFun h9 (ix2 o i)).symm
  refine congrArg₂ (fun x y : EReal => x + y) (Finset.sum_congr rfl fun f _ => ?_) (h8 i).symm
  exact congrArg (fun y : EReal => _ * y) (congrFun h7 (ix2 i f)).symm

end Chain

/-- The same arguments in the reference's memory. -/
def refArgs (m' : (ℓ : Loc Cert.ReferenceIdeal.nD Cert.ReferenceIdeal.τ Cert.ReferenceIdeal.sig) → Buf (Elt Ideal) ℓ) (c : Dev nD) : Args where
  X := m' ((c.tc : Thread Cert.ReferenceIdeal.nD Cert.ReferenceIdeal.τ).loc Cert.ReferenceIdeal.main_arg0)
  W := m' ((c.tc : Thread Cert.ReferenceIdeal.nD Cert.ReferenceIdeal.τ).loc Cert.ReferenceIdeal.main_arg1)
  E := m' ((c.tc : Thread Cert.ReferenceIdeal.nD Cert.ReferenceIdeal.τ).loc Cert.ReferenceIdeal.main_arg2)
  EW := m' ((c.tc : Thread Cert.ReferenceIdeal.nD Cert.ReferenceIdeal.τ).loc Cert.ReferenceIdeal.main_arg3)
  B := m' ((c.tc : Thread Cert.ReferenceIdeal.nD Cert.ReferenceIdeal.τ).loc Cert.ReferenceIdeal.main_arg4)
  V := m' ((c.tc : Thread Cert.ReferenceIdeal.nD Cert.ReferenceIdeal.τ).loc Cert.ReferenceIdeal.main_arg5)
  L := m' ((c.tc : Thread Cert.ReferenceIdeal.nD Cert.ReferenceIdeal.τ).loc Cert.ReferenceIdeal.main_arg6)

theorem ref_first (m' : (ℓ : Loc Cert.ReferenceIdeal.nD Cert.ReferenceIdeal.τ Cert.ReferenceIdeal.sig) → Buf (Elt Ideal) ℓ) (c : Dev nD) :
    Cert.ReferenceIdeal.Value.res_main_v68 (F := Ideal) m' c = Ref.layers (Ref.flatOut (refArgs m' c))
      (m' ((c.tc : Thread Cert.ReferenceIdeal.nD Cert.ReferenceIdeal.τ).loc Cert.ReferenceIdeal.main_arg7))
      (m' ((c.tc : Thread Cert.ReferenceIdeal.nD Cert.ReferenceIdeal.τ).loc Cert.ReferenceIdeal.main_arg8))
      (m' ((c.tc : Thread Cert.ReferenceIdeal.nD Cert.ReferenceIdeal.τ).loc Cert.ReferenceIdeal.main_arg9))
      (m' ((c.tc : Thread Cert.ReferenceIdeal.nD Cert.ReferenceIdeal.τ).loc Cert.ReferenceIdeal.main_arg10)) := rfl

/-- Kernel and reference, run from the same arguments, end with the same results. -/
theorem algebraic : Cert.algebraic_KernelIdeal_ReferenceIdeal := by
  intro m g m' g' hpre hargs
  have hA := inRange_ideal m hpre
  refine ⟨fun c => V5 m c (main_v29_0 : DevRef τ sig), fun c => V5 m c (main_v29_1 : DevRef τ sig), ?_, ?_⟩
  · exact (θ_run (Cert.KernelIdeal.defs (F := Ideal)) _ _).mono
      (fun r h c => ⟨h.1 c main_v29_0 rfl, h.1 c main_v29_1 rfl, args_of_QC h c⟩) (run_main (F := Ideal) m g (preOK m hA))
  · refine (θ_run Cert.ReferenceIdeal.defs _ _).mono (fun r h c => ?_) (Cert.ReferenceIdeal.Value.run (F := Ideal) m' g')
    obtain ⟨e0, e1, e2, e3, e4, e5, e6, e7, e8, e9, e10⟩ := hargs c
    have e : refArgs m' c = argsOf m c := by
      unfold refArgs argsOf
      rw [e0, e1, e2, e3, e4, e5, e6]
    refine ⟨(h c).1.trans ?_, (h c).2.1.trans ?_, (h c).2.2⟩
    · refine (ref_first m' c).trans ((first m c (hA c)).trans ?_).symm
      rw [e, e7, e8, e9, e10]
    · refine Eq.trans (b := Ref.flatOut (refArgs m' c)) rfl ((second m c (hA c)).trans ?_).symm
      rw [e]

end Cert.Proof.Kern

end
-- ==== Proof.lean ====
/-
  `Cert.Claim`, assembled: the frames of the kernel, of its idealization and of the reference, and the value
  claim: kernel and reference end with the same two results over the extended reals.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Run
public import proofs.«01_k».proof.Proof.Gen.Pre_in_range
public import proofs.«01_k».proof.Proof.Frames
public import proofs.«01_k».proof.Proof.Ref
public import proofs.«01_k».proof.Proof.Value
public import Idealize.ShloMosaic.Adequacy
public import Idealize.ShloMosaic.Init

@[expose] public section

noncomputable section

namespace Cert.Proof

/-- Everything that is claimed. -/
theorem claim : Cert.Claim :=
  ⟨Cert.Kernel.Gen.facts, Cert.KernelIdeal.Gen.facts, Cert.ReferenceIdeal.Gen.facts, Cert.Pre_in_range.Gen.facts,
    Kern.frame_kernel, Kern.frame_ideal, Ref.frame, Ref.frame_in_range, trivial, Kern.algebraic⟩

end Cert.Proof

end
